-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "c01" .f32 0x3C23D70A#32 ((1 / 100 : ℝ) : EReal)

def algebraic_KernelIdeal_ReferenceIdeal_on_unsuppressed [hKernelIdeal : Cert.KernelIdeal.Facts] [hReferenceIdeal : Cert.ReferenceIdeal.Facts] [hOn_unsuppressed : Cert.On_unsuppressed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨5, ![64, 64, 6, 16, 3]⟩ : Shape).Idx, (Cert.On_unsuppressed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v4) i = v0 c i)
          ∧ (∀ i : (⟨3, ![64, 64, 6]⟩ : Shape).Idx, (Cert.On_unsuppressed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v3) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨5, ![64, 64, 6, 16, 3]⟩ : Shape).Idx, (Cert.On_unsuppressed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v251) i = v0 c i)
          ∧ (∀ i : (⟨3, ![64, 64, 6]⟩ : Shape).Idx, (Cert.On_unsuppressed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_v250) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_unsuppressed : Cert.On_unsuppressed.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_unsuppressed (hKernelIdeal := hKernelIdeal) (hReferenceIdeal := hReferenceIdeal) (hOn_unsuppressed := hOn_unsuppressed)
-- ==== On_unsuppressed.lean ====
abbrev S64x64x3 : Shape := ⟨3, ![64, 64, 3]⟩
abbrev S64x32x64x80x3 : Shape := ⟨5, ![64, 32, 64, 80, 3]⟩
abbrev S64x32x64 : Shape := ⟨3, ![64, 32, 64]⟩
abbrev S3 : Shape := ⟨1, ![3]⟩
abbrev S64x64x32x80x3 : Shape := ⟨5, ![64, 64, 32, 80, 3]⟩
abbrev S64x64x32 : Shape := ⟨3, ![64, 64, 32]⟩
abbrev S_ : Shape := ⟨0, ![]⟩
abbrev S64x64 : Shape := ⟨2, ![64, 64]⟩
abbrev S64x64x1 : Shape := ⟨3, ![64, 64, 1]⟩
abbrev S64x64x32x1x2 : Shape := ⟨5, ![64, 64, 32, 1, 2]⟩
abbrev S64x64x32x2 : Shape := ⟨4, ![64, 64, 32, 2]⟩
abbrev S64x64x1x32x2 : Shape := ⟨5, ![64, 64, 1, 32, 2]⟩
abbrev S64x64x32x32x2 : Shape := ⟨5, ![64, 64, 32, 32, 2]⟩
abbrev S64x64x32x32 : Shape := ⟨4, ![64, 64, 32, 32]⟩
abbrev S64x64x1x1 : Shape := ⟨4, ![64, 64, 1, 1]⟩
abbrev S1 : Shape := ⟨1, ![1]⟩
abbrev S1x1x1x1 : Shape := ⟨4, ![1, 1, 1, 1]⟩
abbrev S64x64x1x32 : Shape := ⟨4, ![64, 64, 1, 32]⟩
abbrev S1x1x32 : Shape := ⟨3, ![1, 1, 32]⟩
abbrev S64x64x6 : Shape := ⟨3, ![64, 64, 6]⟩
abbrev S64x64x6x1x1 : Shape := ⟨5, ![64, 64, 6, 1, 1]⟩
abbrev S64x64x6x1 : Shape := ⟨4, ![64, 64, 6, 1]⟩
abbrev S64x64x6x80x3 : Shape := ⟨5, ![64, 64, 6, 80, 3]⟩
abbrev S64x64x6x1x2 : Shape := ⟨5, ![64, 64, 6, 1, 2]⟩
abbrev S64x64x6x2 : Shape := ⟨4, ![64, 64, 6, 2]⟩
abbrev S64x64x1x6x2 : Shape := ⟨5, ![64, 64, 1, 6, 2]⟩
abbrev S64x64x6x6x2 : Shape := ⟨5, ![64, 64, 6, 6, 2]⟩
abbrev S64x64x6x6 : Shape := ⟨4, ![64, 64, 6, 6]⟩
abbrev S64x64x1x6 : Shape := ⟨4, ![64, 64, 1, 6]⟩
abbrev S64x64x6x16x3 : Shape := ⟨5, ![64, 64, 6, 16, 3]⟩

class Facts : Prop where
  transposes_S64x32x64x80x3_S64x64x32x80x3_0_2_1_3_4 : S64x32x64x80x3.Transposes [0, 2, 1, 3, 4] S64x64x32x80x3
  transposes_S64x32x64_S64x64x32_0_2_1 : S64x32x64.Transposes [0, 2, 1] S64x64x32
  reducesTo_S64x64x32_S64x64_d2 : S64x64x32.ReducesTo [2] S64x64
  h_S_ : 0 < S_.numel
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x32_0_1_2 : S64x64x1.BroadcastsInDim S64x64x32 (![0, 1, 2] : Fin 3 → Fin S64x64x32.rank)
  slices_S64x64x32x80x3_S64x64x32x1x2_0_0_0_79_0 : S64x64x32x80x3.Slices ![0, 0, 0, 79, 0] S64x64x32x1x2
  shapeCasts_S64x64x32x1x2_S64x64x32x2 : S64x64x32x1x2.ShapeCasts S64x64x32x2
  bcast_S64x64x32x2_S64x64x32x1x2_0_1_2_4 : S64x64x32x2.BroadcastsInDim S64x64x32x1x2 (![0, 1, 2, 4] : Fin 4 → Fin S64x64x32x1x2.rank)
  bcast_S64x64x32x2_S64x64x1x32x2_0_1_3_4 : S64x64x32x2.BroadcastsInDim S64x64x1x32x2 (![0, 1, 3, 4] : Fin 4 → Fin S64x64x1x32x2.rank)
  bcast_S64x64x32x1x2_S64x64x32x32x2_0_1_2_3_4 : S64x64x32x1x2.BroadcastsInDim S64x64x32x32x2 (![0, 1, 2, 3, 4] : Fin 5 → Fin S64x64x32x32x2.rank)
  bcast_S64x64x1x32x2_S64x64x32x32x2_0_1_2_3_4 : S64x64x1x32x2.BroadcastsInDim S64x64x32x32x2 (![0, 1, 2, 3, 4] : Fin 5 → Fin S64x64x32x32x2.rank)
  reducesTo_S64x64x32x32x2_S64x64x32x32_d4 : S64x64x32x32x2.ReducesTo [4] S64x64x32x32
  bcast_S64x64_S64x64x1x1_0_1 : S64x64.BroadcastsInDim S64x64x1x1 (![0, 1] : Fin 2 → Fin S64x64x1x1.rank)
  bcast_S64x64x1x1_S64x64x32x32_0_1_2_3 : S64x64x1x1.BroadcastsInDim S64x64x32x32 (![0, 1, 2, 3] : Fin 4 → Fin S64x64x32x32.rank)
  sliceFits_S64x64x32_S64x64x1 : S64x64x32.Slices (fun _ => 0) S64x64x1
  shapeCasts_S64x64x1_S64x64 : S64x64x1.ShapeCasts S64x64
  bcast_S_S64x64x1x1 : S_.BroadcastsInDim S64x64x1x1 (![] : Fin 0 → Fin S64x64x1x1.rank)
  bcast_S1_S1x1x1x1_3 : S1.BroadcastsInDim S1x1x1x1 (![3] : Fin 1 → Fin S1x1x1x1.rank)
  bcast_S1x1x1x1_S64x64x1x1_0_1_2_3 : S1x1x1x1.BroadcastsInDim S64x64x1x1 (![0, 1, 2, 3] : Fin 4 → Fin S64x64x1x1.rank)
  reducesTo_S64x64x1x1_S64x64x1_d3 : S64x64x1x1.ReducesTo [3] S64x64x1
  bcast_S64x64x1_S64x64x1x32_0_1_2 : S64x64x1.BroadcastsInDim S64x64x1x32 (![0, 1, 2] : Fin 3 → Fin S64x64x1x32.rank)
  bcast_S_S64x64x1x32 : S_.BroadcastsInDim S64x64x1x32 (![] : Fin 0 → Fin S64x64x1x32.rank)
  shapeCasts_S64x64x1x32_S64x64x32 : S64x64x1x32.ShapeCasts S64x64x32
  bcast_S_S64x64x32 : S_.BroadcastsInDim S64x64x32 (![] : Fin 0 → Fin S64x64x32.rank)
  bcast_S1x1x32_S64x64x32_0_1_2 : S1x1x32.BroadcastsInDim S64x64x32 (![0, 1, 2] : Fin 3 → Fin S64x64x32.rank)
  concatenates_S64x64x1_S64x64x1_S64x64x1_S64x64x1_S64x64x1_S64x64x1_S64x64x6_d2 : Shape.Concatenates [S64x64x1, S64x64x1, S64x64x1, S64x64x1, S64x64x1, S64x64x1] S64x64x6 2
  bcast_S64x64x6_S64x64x6x1x1_0_1_2 : S64x64x6.BroadcastsInDim S64x64x6x1x1 (![0, 1, 2] : Fin 3 → Fin S64x64x6x1x1.rank)
  bcast_S_S64x64x6x1x1 : S_.BroadcastsInDim S64x64x6x1x1 (![] : Fin 0 → Fin S64x64x6x1x1.rank)
  shapeCasts_S64x64x6x1x1_S64x64x6x1 : S64x64x6x1x1.ShapeCasts S64x64x6x1
  bcast_S_S64x64x6x1 : S_.BroadcastsInDim S64x64x6x1 (![] : Fin 0 → Fin S64x64x6x1.rank)
  bcast_S1x1x1x1_S64x64x6x1_0_1_2_3 : S1x1x1x1.BroadcastsInDim S64x64x6x1 (![0, 1, 2, 3] : Fin 4 → Fin S64x64x6x1.rank)
  reducesTo_S64x64x6x1_S64x64x6_d3 : S64x64x6x1.ReducesTo [3] S64x64x6
  bcast_S64x64x6_S64x64x6x80x3_0_1_2 : S64x64x6.BroadcastsInDim S64x64x6x80x3 (![0, 1, 2] : Fin 3 → Fin S64x64x6x80x3.rank)
  bcast_S_S64x64x6x80x3 : S_.BroadcastsInDim S64x64x6x80x3 (![] : Fin 0 → Fin S64x64x6x80x3.rank)
  bcast_S_S64x64x6 : S_.BroadcastsInDim S64x64x6 (![] : Fin 0 → Fin S64x64x6.rank)
  shapeCasts_S64x64x6_S64x64x6x1 : S64x64x6.ShapeCasts S64x64x6x1
  reducesTo_S64x64x6_S64x64_d2 : S64x64x6.ReducesTo [2] S64x64
  bcast_S64x64x1_S64x64x6_0_1_2 : S64x64x1.BroadcastsInDim S64x64x6 (![0, 1, 2] : Fin 3 → Fin S64x64x6.rank)
  slices_S64x64x6x80x3_S64x64x6x1x2_0_0_0_79_0 : S64x64x6x80x3.Slices ![0, 0, 0, 79, 0] S64x64x6x1x2
  shapeCasts_S64x64x6x1x2_S64x64x6x2 : S64x64x6x1x2.ShapeCasts S64x64x6x2
  bcast_S64x64x6x2_S64x64x6x1x2_0_1_2_4 : S64x64x6x2.BroadcastsInDim S64x64x6x1x2 (![0, 1, 2, 4] : Fin 4 → Fin S64x64x6x1x2.rank)
  bcast_S64x64x6x2_S64x64x1x6x2_0_1_3_4 : S64x64x6x2.BroadcastsInDim S64x64x1x6x2 (![0, 1, 3, 4] : Fin 4 → Fin S64x64x1x6x2.rank)
  bcast_S64x64x6x1x2_S64x64x6x6x2_0_1_2_3_4 : S64x64x6x1x2.BroadcastsInDim S64x64x6x6x2 (![0, 1, 2, 3, 4] : Fin 5 → Fin S64x64x6x6x2.rank)
  bcast_S64x64x1x6x2_S64x64x6x6x2_0_1_2_3_4 : S64x64x1x6x2.BroadcastsInDim S64x64x6x6x2 (![0, 1, 2, 3, 4] : Fin 5 → Fin S64x64x6x6x2.rank)
  reducesTo_S64x64x6x6x2_S64x64x6x6_d4 : S64x64x6x6x2.ReducesTo [4] S64x64x6x6
  bcast_S64x64x1x1_S64x64x6x6_0_1_2_3 : S64x64x1x1.BroadcastsInDim S64x64x6x6 (![0, 1, 2, 3] : Fin 4 → Fin S64x64x6x6.rank)
  bcast_S64x64x6_S64x64x1x6_0_1_3 : S64x64x6.BroadcastsInDim S64x64x1x6 (![0, 1, 3] : Fin 3 → Fin S64x64x1x6.rank)
  bcast_S64x64x6_S64x64x6x1_0_1_2 : S64x64x6.BroadcastsInDim S64x64x6x1 (![0, 1, 2] : Fin 3 → Fin S64x64x6x1.rank)
  bcast_S64x64x1x6_S64x64x6x6_0_1_2_3 : S64x64x1x6.BroadcastsInDim S64x64x6x6 (![0, 1, 2, 3] : Fin 4 → Fin S64x64x6x6.rank)
  bcast_S64x64x6x1_S64x64x6x6_0_1_2_3 : S64x64x6x1.BroadcastsInDim S64x64x6x6 (![0, 1, 2, 3] : Fin 4 → Fin S64x64x6x6.rank)
  reducesTo_S64x64x6x6_S64x64_d2_3 : S64x64x6x6.ReducesTo [2, 3] S64x64
  bcast_S_S64x64x6x16x3 : S_.BroadcastsInDim S64x64x6x16x3 (![] : Fin 0 → Fin S64x64x6x16x3.rank)
  dot_S64x64x3_S3_S64x64_2_0_01_n_n_n_wf : DotDims.WF S64x64x3 S3 S64x64 [2] [0] [0, 1] [] [] []
  gather_S64x64x32x32_S64x64x1x1_S64x64x1x32_3_2_01_01_2_3_11132_wf : GatherDims.WF S64x64x32x32 S64x64x1x1 S64x64x1x32 [3] [2] [0, 1] [2] [0, 1] 3 ![1, 1, 1, 32]
  gather_S64x64x32x80x3_S64x64x6x1_S64x64x6x80x3_34_2_01_01_2_3_111803_wf : GatherDims.WF S64x64x32x80x3 S64x64x6x1 S64x64x6x80x3 [3, 4] [2] [0, 1] [2] [0, 1] 3 ![1, 1, 1, 80, 3]
  gather_S64x64x32_S64x64x6x1_S64x64x6_n_2_01_01_2_3_111_wf : GatherDims.WF S64x64x32 S64x64x6x1 S64x64x6 [] [2] [0, 1] [2] [0, 1] 3 ![1, 1, 1]

variable [Facts]

def dot_S64x64x3_S3_S64x64_2_0_01_n_n_n : DotDims S64x64x3 S3 S64x64 where
  lhsContracting := [2]
  rhsContracting := [0]
  lhsNonContracting := [0, 1]
  rhsNonContracting := []
  lhsBatch := []
  rhsBatch := []
  wf := dot_S64x64x3_S3_S64x64_2_0_01_n_n_n_wf
def gather_S64x64x32x32_S64x64x1x1_S64x64x1x32_3_2_01_01_2_3_11132 : GatherDims S64x64x32x32 S64x64x1x1 S64x64x1x32 where
  offsetDims := [3]
  collapsedSliceDims := [2]
  operandBatchingDims := [0, 1]
  startIndicesBatchingDims := [0, 1]
  startIndexMap := [2]
  indexVectorDim := 3
  sliceSizes := ![1, 1, 1, 32]
  wf := gather_S64x64x32x32_S64x64x1x1_S64x64x1x32_3_2_01_01_2_3_11132_wf
def gather_S64x64x32x80x3_S64x64x6x1_S64x64x6x80x3_34_2_01_01_2_3_111803 : GatherDims S64x64x32x80x3 S64x64x6x1 S64x64x6x80x3 where
  offsetDims := [3, 4]
  collapsedSliceDims := [2]
  operandBatchingDims := [0, 1]
  startIndicesBatchingDims := [0, 1]
  startIndexMap := [2]
  indexVectorDim := 3
  sliceSizes := ![1, 1, 1, 80, 3]
  wf := gather_S64x64x32x80x3_S64x64x6x1_S64x64x6x80x3_34_2_01_01_2_3_111803_wf
def gather_S64x64x32_S64x64x6x1_S64x64x6_n_2_01_01_2_3_111 : GatherDims S64x64x32 S64x64x6x1 S64x64x6 where
  offsetDims := []
  collapsedSliceDims := [2]
  operandBatchingDims := [0, 1]
  startIndicesBatchingDims := [0, 1]
  startIndexMap := [2]
  indexVectorDim := 3
  sliceSizes := ![1, 1, 1]
  wf := gather_S64x64x32_S64x64x6x1_S64x64x6_n_2_01_01_2_3_111_wf

noncomputable abbrev lit0 : Fin 3 → BitVec 32 := fun
  | 0 => 0x40200000#32 | 1 => 0x3F800000#32 | 2 => 0x40000000#32
  | _ => 0#32

noncomputable abbrev lit1 : Fin 3 → BitVec 32 := fun
  | 0 => 0x40200000#32 | 1 => 0x3F800000#32 | 2 => 0x40000000#32
  | _ => 0#32

def fn_norm {F : FTy → Type} [FloatOps F] (arg0 : FVec F S64x64x32x32x2 .f32) : FVec F S64x64x32x32 .f32 :=
  let v0 : FVec F S64x64x32x32x2 .f32 := mulf arg0 arg0
  let cst : FVec F S_ .f32 := constant S_ .f32 0x00000000#32
  let v1 : FVec F S64x64x32x32 .f32 := (fun x v => Host.reduceAdd x v reducesTo_S64x64x32x32x2_S64x64x32x32_d4 h_S_) v0 cst
  let v2 : FVec F S64x64x32x32 .f32 := Host.sqrt v1
  v2

def fn_take_along_axis {F : FTy → Type} [FloatOps F] (arg0 : IVec S64x64x32x32 1) (arg1 : IVec S64x64x1x1 32) : IVec S64x64x1x32 1 :=
  let c : IVec S_ 32 := constantI S_ 32 0#32
  let v0 : IVec S64x64x1x1 32 := broadcastInDim S64x64x1x1 ![] bcast_S_S64x64x1x1 c
  let v1 : IVec S64x64x1x1 1 := cmpi .slt arg1 v0
  let c_0 : IVec S_ 32 := constantI S_ 32 32#32
  let v2 : IVec S64x64x1x1 32 := broadcastInDim S64x64x1x1 ![] bcast_S_S64x64x1x1 c_0
  let v3 : IVec S64x64x1x1 32 := addi arg1 v2
  let v4 : IVec S64x64x1x1 32 := select v1 v3 arg1
  let c_1 : IVec S1 32 := constantI S1 32 31#32
  let c_2 : IVec S_ 32 := constantI S_ 32 0#32
  let v5 : IVec S64x64x1x1 32 := broadcastInDim S64x64x1x1 ![] bcast_S_S64x64x1x1 c_2
  let v6 : IVec S64x64x1x1 1 := cmpi .sge v4 v5
  let v7 : IVec S1x1x1x1 32 := broadcastInDim S1x1x1x1 ![3] bcast_S1_S1x1x1x1_3 c_1
  let v8 : IVec S64x64x1x1 32 := broadcastInDim S64x64x1x1 ![0, 1, 2, 3] bcast_S1x1x1x1_S64x64x1x1_0_1_2_3 v7
  let v9 : IVec S64x64x1x1 1 := cmpi .sle v4 v8
  let v10 : IVec S64x64x1x1 1 := andi v6 v9
  let c_3 : IVec S_ 1 := constantI S_ 1 1#1
  let v11 : IVec S64x64x1 1 := (fun x v => Host.reduce IntOp.andi x v reducesTo_S64x64x1x1_S64x64x1_d3 h_S_) v10 c_3
  let v12 : IVec S64x64x1x32 1 := (fun x i => Host.gather gather_S64x64x32x32_S64x64x1x1_S64x64x1x32_3_2_01_01_2_3_11132 x i) arg0 v4
  let v13 : IVec S64x64x1x32 1 := broadcastInDim S64x64x1x32 ![0, 1, 2] bcast_S64x64x1_S64x64x1x32_0_1_2 v11
  let c_4 : IVec S_ 1 := constantI S_ 1 1#1
  let v14 : IVec S64x64x1x32 1 := broadcastInDim S64x64x1x32 ![] bcast_S_S64x64x1x32 c_4
  let v15 : IVec S64x64x1x32 1 := select v13 v12 v14
  v15

def fn_where {F : FTy → Type} [FloatOps F] (arg0 : IVec S64x64x32 1) (arg1 : FVec F S64x64x32 .f32) (arg2 : FVec F S64x64x32 .f32) : FVec F S64x64x32 .f32 :=
  let v0 : FVec F S64x64x32 .f32 := select arg0 arg1 arg2
  v0

def fn_one_hot {F : FTy → Type} [FloatOps F] (arg0 : IVec S64x64 32) : IVec S64x64x32 1 :=
  let v0 : IVec S64x64x1 32 := broadcastInDim S64x64x1 ![0, 1] bcast_S64x64_S64x64x1_0_1 arg0
  let v1 : IVec S1x1x32 32 := iotaInDim S1x1x32 32 2
  let v2 : IVec S64x64x32 32 := broadcastInDim S64x64x32 ![0, 1, 2] bcast_S64x64x1_S64x64x32_0_1_2 v0
  let v3 : IVec S64x64x32 32 := broadcastInDim S64x64x32 ![0, 1, 2] bcast_S1x1x32_S64x64x32_0_1_2 v1
  let v4 : IVec S64x64x32 1 := cmpi .eq v2 v3
  v4

def fn_where_0 {F : FTy → Type} [FloatOps F] (arg0 : IVec S64x64x32 1) (arg1 : FVec F S_ .f32) (arg2 : FVec F S64x64x32 .f32) : FVec F S64x64x32 .f32 :=
  let v0 : FVec F S_ .f32 := id arg1
  let v1 : FVec F S64x64x32 .f32 := broadcastInDim S64x64x32 ![] bcast_S_S64x64x32 v0
  let v2 : FVec F S64x64x32 .f32 := select arg0 v1 arg2
  v2

def fn_take_along_axis_1 {F : FTy → Type} [FloatOps F] (arg0 : FVec F S64x64x32x80x3 .f32) (arg1 : IVec S64x64x6x1x1 32) : FVec F S64x64x6x80x3 .f32 :=
  let c : IVec S_ 32 := constantI S_ 32 0#32
  let v0 : IVec S64x64x6x1x1 32 := broadcastInDim S64x64x6x1x1 ![] bcast_S_S64x64x6x1x1 c
  let v1 : IVec S64x64x6x1x1 1 := cmpi .slt arg1 v0
  let c_0 : IVec S_ 32 := constantI S_ 32 32#32
  let v2 : IVec S64x64x6x1x1 32 := broadcastInDim S64x64x6x1x1 ![] bcast_S_S64x64x6x1x1 c_0
  let v3 : IVec S64x64x6x1x1 32 := addi arg1 v2
  let v4 : IVec S64x64x6x1x1 32 := select v1 v3 arg1
  let v5 : IVec S64x64x6x1 32 := shapeCast S64x64x6x1 v4 shapeCasts_S64x64x6x1x1_S64x64x6x1
  let c_1 : IVec S1 32 := constantI S1 32 31#32
  let c_2 : IVec S_ 32 := constantI S_ 32 0#32
  let v6 : IVec S64x64x6x1 32 := broadcastInDim S64x64x6x1 ![] bcast_S_S64x64x6x1 c_2
  let v7 : IVec S64x64x6x1 1 := cmpi .sge v5 v6
  let v8 : IVec S1x1x1x1 32 := broadcastInDim S1x1x1x1 ![3] bcast_S1_S1x1x1x1_3 c_1
  let v9 : IVec S64x64x6x1 32 := broadcastInDim S64x64x6x1 ![0, 1, 2, 3] bcast_S1x1x1x1_S64x64x6x1_0_1_2_3 v8
  let v10 : IVec S64x64x6x1 1 := cmpi .sle v5 v9
  let v11 : IVec S64x64x6x1 1 := andi v7 v10
  let c_3 : IVec S_ 1 := constantI S_ 1 1#1
  let v12 : IVec S64x64x6 1 := (fun x v => Host.reduce IntOp.andi x v reducesTo_S64x64x6x1_S64x64x6_d3 h_S_) v11 c_3
  let v13 : FVec F S64x64x6x80x3 .f32 := (fun x i => Host.gather gather_S64x64x32x80x3_S64x64x6x1_S64x64x6x80x3_34_2_01_01_2_3_111803 x i) arg0 v5
  let v14 : IVec S64x64x6x80x3 1 := broadcastInDim S64x64x6x80x3 ![0, 1, 2] bcast_S64x64x6_S64x64x6x80x3_0_1_2 v12
  let cst : FVec F S_ .f32 := constant S_ .f32 0x7FC00000#32
  let v15 : FVec F S64x64x6x80x3 .f32 := broadcastInDim S64x64x6x80x3 ![] bcast_S_S64x64x6x80x3 cst
  let v16 : FVec F S64x64x6x80x3 .f32 := select v14 v13 v15
  v16

def fn_take_along_axis_2 {F : FTy → Type} [FloatOps F] (arg0 : FVec F S64x64x32 .f32) (arg1 : IVec S64x64x6 32) : FVec F S64x64x6 .f32 :=
  let c : IVec S_ 32 := constantI S_ 32 0#32
  let v0 : IVec S64x64x6 32 := broadcastInDim S64x64x6 ![] bcast_S_S64x64x6 c
  let v1 : IVec S64x64x6 1 := cmpi .slt arg1 v0
  let c_0 : IVec S_ 32 := constantI S_ 32 32#32
  let v2 : IVec S64x64x6 32 := broadcastInDim S64x64x6 ![] bcast_S_S64x64x6 c_0
  let v3 : IVec S64x64x6 32 := addi arg1 v2
  let v4 : IVec S64x64x6 32 := select v1 v3 arg1
  let v5 : IVec S64x64x6x1 32 := shapeCast S64x64x6x1 v4 shapeCasts_S64x64x6_S64x64x6x1
  let c_1 : IVec S1 32 := constantI S1 32 31#32
  let c_2 : IVec S_ 32 := constantI S_ 32 0#32
  let v6 : IVec S64x64x6x1 32 := broadcastInDim S64x64x6x1 ![] bcast_S_S64x64x6x1 c_2
  let v7 : IVec S64x64x6x1 1 := cmpi .sge v5 v6
  let v8 : IVec S1x1x1x1 32 := broadcastInDim S1x1x1x1 ![3] bcast_S1_S1x1x1x1_3 c_1
  let v9 : IVec S64x64x6x1 32 := broadcastInDim S64x64x6x1 ![0, 1, 2, 3] bcast_S1x1x1x1_S64x64x6x1_0_1_2_3 v8
  let v10 : IVec S64x64x6x1 1 := cmpi .sle v5 v9
  let v11 : IVec S64x64x6x1 1 := andi v7 v10
  let c_3 : IVec S_ 1 := constantI S_ 1 1#1
  let v12 : IVec S64x64x6 1 := (fun x v => Host.reduce IntOp.andi x v reducesTo_S64x64x6x1_S64x64x6_d3 h_S_) v11 c_3
  let v13 : FVec F S64x64x6 .f32 := (fun x i => Host.gather gather_S64x64x32_S64x64x6x1_S64x64x6_n_2_01_01_2_3_111 x i) arg0 v5
  let cst : FVec F S_ .f32 := constant S_ .f32 0x7FC00000#32
  let v14 : FVec F S64x64x6 .f32 := broadcastInDim S64x64x6 ![] bcast_S_S64x64x6 cst
  let v15 : FVec F S64x64x6 .f32 := select v12 v13 v14
  v15

def fn_norm_3 {F : FTy → Type} [FloatOps F] (arg0 : FVec F S64x64x6x6x2 .f32) : FVec F S64x64x6x6 .f32 :=
  let v0 : FVec F S64x64x6x6x2 .f32 := mulf arg0 arg0
  let cst : FVec F S_ .f32 := constant S_ .f32 0x00000000#32
  let v1 : FVec F S64x64x6x6 .f32 := (fun x v => Host.reduceAdd x v reducesTo_S64x64x6x6x2_S64x64x6x6_d4 h_S_) v0 cst
  let v2 : FVec F S64x64x6x6 .f32 := Host.sqrt v1
  v2

def fn_part6 {F : FTy → Type} [FloatOps F] (main_v111 : IVec S64x64 1) (main_c_27 : IVec S_ 1) : IVec S64x64x6x16x3 1 × IVec S64x64x6 1 :=
  let main_v112 : IVec S64x64x6x16x3 1 := broadcastInDim S64x64x6x16x3 ![] bcast_S_S64x64x6x16x3 main_c_27
  let main_v113 : IVec S64x64x1 1 := broadcastInDim S64x64x1 ![0, 1] bcast_S64x64_S64x64x1_0_1 main_v111
  let main_v114 : IVec S64x64x1 1 := noti main_v113
  let main_v115 : IVec S64x64x6 1 := broadcastInDim S64x64x6 ![0, 1, 2] bcast_S64x64x1_S64x64x6_0_1_2 main_v114
  (main_v112, main_v115)

def fn_part5 {F : FTy → Type} [FloatOps F] (main_arg0 : FVec F S64x64x3 .f32) (main_cst_0 : FVec F S3 .f32) (main_v87 : FVec F S64x64x6x80x3 .f32) (main_v88 : FVec F S64x64x6 .f32) (main_v89 : FVec F S64x64 .f32) : IVec S64x64x6x16x3 1 × IVec S64x64x6 1 :=
  let main_v90 : FVec F S64x64x1 .f32 := broadcastInDim S64x64x1 ![0, 1] bcast_S64x64_S64x64x1_0_1 main_v89
  let main_v91 : FVec F S64x64x6 .f32 := broadcastInDim S64x64x6 ![0, 1, 2] bcast_S64x64x1_S64x64x6_0_1_2 main_v90
  let main_v92 : FVec F S64x64x6 .f32 := Host.divf main_v88 main_v91
  let main_v93 : FVec F S64x64 .f32 := (fun l r => Host.dotGeneral dot_S64x64x3_S3_S64x64_2_0_01_n_n_n none l r) main_arg0 main_cst_0
  let main_v94 : FVec F S64x64x6x1x2 .f32 := (extractStridedSlice S64x64x6x1x2 ![0, 0, 0, 79, 0] · slices_S64x64x6x80x3_S64x64x6x1x2_0_0_0_79_0) main_v87
  let main_v95 : FVec F S64x64x6x2 .f32 := shapeCast S64x64x6x2 main_v94 shapeCasts_S64x64x6x1x2_S64x64x6x2
  let main_v96 : FVec F S64x64x6x1x2 .f32 := broadcastInDim S64x64x6x1x2 ![0, 1, 2, 4] bcast_S64x64x6x2_S64x64x6x1x2_0_1_2_4 main_v95
  let main_v97 : FVec F S64x64x1x6x2 .f32 := broadcastInDim S64x64x1x6x2 ![0, 1, 3, 4] bcast_S64x64x6x2_S64x64x1x6x2_0_1_3_4 main_v95
  let main_v98 : FVec F S64x64x6x6x2 .f32 := broadcastInDim S64x64x6x6x2 ![0, 1, 2, 3, 4] bcast_S64x64x6x1x2_S64x64x6x6x2_0_1_2_3_4 main_v96
  let main_v99 : FVec F S64x64x6x6x2 .f32 := broadcastInDim S64x64x6x6x2 ![0, 1, 2, 3, 4] bcast_S64x64x1x6x2_S64x64x6x6x2_0_1_2_3_4 main_v97
  let main_v100 : FVec F S64x64x6x6x2 .f32 := subf main_v98 main_v99
  let main_v101 : FVec F S64x64x6x6 .f32 := fn_norm_3 (F := F) main_v100
  let main_v102 : FVec F S64x64x1x1 .f32 := broadcastInDim S64x64x1x1 ![0, 1] bcast_S64x64_S64x64x1x1_0_1 main_v93
  let main_v103 : FVec F S64x64x6x6 .f32 := broadcastInDim S64x64x6x6 ![0, 1, 2, 3] bcast_S64x64x1x1_S64x64x6x6_0_1_2_3 main_v102
  let main_v104 : IVec S64x64x6x6 1 := cmpf .olt main_v101 main_v103
  let main_v105 : FVec F S64x64x1x6 .f32 := broadcastInDim S64x64x1x6 ![0, 1, 3] bcast_S64x64x6_S64x64x1x6_0_1_3 main_v92
  let main_v106 : FVec F S64x64x6x1 .f32 := broadcastInDim S64x64x6x1 ![0, 1, 2] bcast_S64x64x6_S64x64x6x1_0_1_2 main_v92
  let main_v107 : FVec F S64x64x6x6 .f32 := broadcastInDim S64x64x6x6 ![0, 1, 2, 3] bcast_S64x64x1x6_S64x64x6x6_0_1_2_3 main_v105
  let main_v108 : FVec F S64x64x6x6 .f32 := broadcastInDim S64x64x6x6 ![0, 1, 2, 3] bcast_S64x64x6x1_S64x64x6x6_0_1_2_3 main_v106
  let main_v109 : IVec S64x64x6x6 1 := cmpf .ogt main_v107 main_v108
  let main_v110 : IVec S64x64x6x6 1 := andi main_v104 main_v109
  let main_c : IVec S_ 1 := constantI S_ 1 0#1
  let main_v111 : IVec S64x64 1 := (fun x v => Host.reduce IntOp.ori x v reducesTo_S64x64x6x6_S64x64_d2_3 h_S_) main_v110 main_c
  let main_c_27 : IVec S_ 1 := constantI S_ 1 1#1
  fn_part6 (F := F) main_v111 main_c_27

def fn_part4 {F : FTy → Type} [FloatOps F] (main_arg0 : FVec F S64x64x3 .f32) (main_cst_0 : FVec F S3 .f32) (main_v0 : FVec F S64x64x32x80x3 .f32) (main_v12 : FVec F S64x64x32 .f32) (main_v24 : IVec S64x64x32x32 1) (main_v25 : IVec S64x64 32) (main_v34 : IVec S64x64 32) (main_v43 : IVec S64x64 32) (main_v52 : IVec S64x64 32) (main_v61 : IVec S64x64 32) (main_v69 : FVec F S64x64x32 .f32) : IVec S64x64x6x16x3 1 × IVec S64x64x6 1 :=
  let main_indices_23 : IVec S64x64x1 32 := (fun x => (Host.topK S64x64x1 2 (FloatOps.cmpfTotal .gt) x sliceFits_S64x64x32_S64x64x1).2) main_v69
  let main_v70 : IVec S64x64 32 := shapeCast S64x64 main_indices_23 shapeCasts_S64x64x1_S64x64
  let main_v71 : IVec S64x64x1x1 32 := broadcastInDim S64x64x1x1 ![0, 1] bcast_S64x64_S64x64x1x1_0_1 main_v70
  let main_v72 : IVec S64x64x1x32 1 := fn_take_along_axis (F := F) main_v24 main_v71
  let main_v73 : IVec S64x64x32 1 := shapeCast S64x64x32 main_v72 shapeCasts_S64x64x1x32_S64x64x32
  let main_cst_24 : FVec F S_ .f32 := constant S_ .f32 0x42C80000#32
  let main_v74 : FVec F S64x64x32 .f32 := broadcastInDim S64x64x32 ![] bcast_S_S64x64x32 main_cst_24
  let main_v75 : FVec F S64x64x32 .f32 := Host.divf main_v69 main_v74
  let main_v76 : FVec F S64x64x32 .f32 := fn_where (F := F) main_v73 main_v75 main_v69
  let main_v77 : IVec S64x64x32 1 := fn_one_hot (F := F) main_v70
  let main_cst_25 : FVec F S_ .f32 := constant S_ .f32 0xBF800000#32
  let main_v78 : FVec F S64x64x32 .f32 := fn_where_0 (F := F) main_v77 main_cst_25 main_v76
  let main_v79 : IVec S64x64x1 32 := broadcastInDim S64x64x1 ![0, 1] bcast_S64x64_S64x64x1_0_1 main_v25
  let main_v80 : IVec S64x64x1 32 := broadcastInDim S64x64x1 ![0, 1] bcast_S64x64_S64x64x1_0_1 main_v34
  let main_v81 : IVec S64x64x1 32 := broadcastInDim S64x64x1 ![0, 1] bcast_S64x64_S64x64x1_0_1 main_v43
  let main_v82 : IVec S64x64x1 32 := broadcastInDim S64x64x1 ![0, 1] bcast_S64x64_S64x64x1_0_1 main_v52
  let main_v83 : IVec S64x64x1 32 := broadcastInDim S64x64x1 ![0, 1] bcast_S64x64_S64x64x1_0_1 main_v61
  let main_v84 : IVec S64x64x1 32 := broadcastInDim S64x64x1 ![0, 1] bcast_S64x64_S64x64x1_0_1 main_v70
  let main_v85 : IVec S64x64x6 32 := concatenate S64x64x6 2 [⟨S64x64x1, main_v79⟩, ⟨S64x64x1, main_v80⟩, ⟨S64x64x1, main_v81⟩, ⟨S64x64x1, main_v82⟩, ⟨S64x64x1, main_v83⟩, ⟨S64x64x1, main_v84⟩] concatenates_S64x64x1_S64x64x1_S64x64x1_S64x64x1_S64x64x1_S64x64x1_S64x64x6_d2
  let main_v86 : IVec S64x64x6x1x1 32 := broadcastInDim S64x64x6x1x1 ![0, 1, 2] bcast_S64x64x6_S64x64x6x1x1_0_1_2 main_v85
  let main_v87 : FVec F S64x64x6x80x3 .f32 := fn_take_along_axis_1 (F := F) main_v0 main_v86
  let main_v88 : FVec F S64x64x6 .f32 := fn_take_along_axis_2 (F := F) main_v12 main_v85
  let main_cst_26 : FVec F S_ .f32 := constant S_ .f32 0x00000000#32
  let main_v89 : FVec F S64x64 .f32 := (fun x v => Host.reduceAdd x v reducesTo_S64x64x6_S64x64_d2 h_S_) main_v88 main_cst_26
  fn_part5 (F := F) main_arg0 main_cst_0 main_v87 main_v88 main_v89

def fn_part3 {F : FTy → Type} [FloatOps F] (main_arg0 : FVec F S64x64x3 .f32) (main_cst_0 : FVec F S3 .f32) (main_v0 : FVec F S64x64x32x80x3 .f32) (main_v12 : FVec F S64x64x32 .f32) (main_v24 : IVec S64x64x32x32 1) (main_v25 : IVec S64x64 32) (main_v34 : IVec S64x64 32) (main_v43 : IVec S64x64 32) (main_v51 : FVec F S64x64x32 .f32) (main_v52 : IVec S64x64 32) : IVec S64x64x6x16x3 1 × IVec S64x64x6 1 :=
  let main_v53 : IVec S64x64x1x1 32 := broadcastInDim S64x64x1x1 ![0, 1] bcast_S64x64_S64x64x1x1_0_1 main_v52
  let main_v54 : IVec S64x64x1x32 1 := fn_take_along_axis (F := F) main_v24 main_v53
  let main_v55 : IVec S64x64x32 1 := shapeCast S64x64x32 main_v54 shapeCasts_S64x64x1x32_S64x64x32
  let main_cst_16 : FVec F S_ .f32 := constant S_ .f32 0x42C80000#32
  let main_v56 : FVec F S64x64x32 .f32 := broadcastInDim S64x64x32 ![] bcast_S_S64x64x32 main_cst_16
  let main_v57 : FVec F S64x64x32 .f32 := Host.divf main_v51 main_v56
  let main_v58 : FVec F S64x64x32 .f32 := fn_where (F := F) main_v55 main_v57 main_v51
  let main_v59 : IVec S64x64x32 1 := fn_one_hot (F := F) main_v52
  let main_cst_17 : FVec F S_ .f32 := constant S_ .f32 0xBF800000#32
  let main_v60 : FVec F S64x64x32 .f32 := fn_where_0 (F := F) main_v59 main_cst_17 main_v58
  let main_values_18 : FVec F S64x64x1 .f32 := (fun x => (Host.topK S64x64x1 2 (FloatOps.cmpfTotal .gt) x sliceFits_S64x64x32_S64x64x1).1) main_v60
  let main_indices_19 : IVec S64x64x1 32 := (fun x => (Host.topK S64x64x1 2 (FloatOps.cmpfTotal .gt) x sliceFits_S64x64x32_S64x64x1).2) main_v60
  let main_v61 : IVec S64x64 32 := shapeCast S64x64 main_indices_19 shapeCasts_S64x64x1_S64x64
  let main_v62 : IVec S64x64x1x1 32 := broadcastInDim S64x64x1x1 ![0, 1] bcast_S64x64_S64x64x1x1_0_1 main_v61
  let main_v63 : IVec S64x64x1x32 1 := fn_take_along_axis (F := F) main_v24 main_v62
  let main_v64 : IVec S64x64x32 1 := shapeCast S64x64x32 main_v63 shapeCasts_S64x64x1x32_S64x64x32
  let main_cst_20 : FVec F S_ .f32 := constant S_ .f32 0x42C80000#32
  let main_v65 : FVec F S64x64x32 .f32 := broadcastInDim S64x64x32 ![] bcast_S_S64x64x32 main_cst_20
  let main_v66 : FVec F S64x64x32 .f32 := Host.divf main_v60 main_v65
  let main_v67 : FVec F S64x64x32 .f32 := fn_where (F := F) main_v64 main_v66 main_v60
  let main_v68 : IVec S64x64x32 1 := fn_one_hot (F := F) main_v61
  let main_cst_21 : FVec F S_ .f32 := constant S_ .f32 0xBF800000#32
  let main_v69 : FVec F S64x64x32 .f32 := fn_where_0 (F := F) main_v68 main_cst_21 main_v67
  let main_values_22 : FVec F S64x64x1 .f32 := (fun x => (Host.topK S64x64x1 2 (FloatOps.cmpfTotal .gt) x sliceFits_S64x64x32_S64x64x1).1) main_v69
  fn_part4 (F := F) main_arg0 main_cst_0 main_v0 main_v12 main_v24 main_v25 main_v34 main_v43 main_v52 main_v61 main_v69

def fn_part2 {F : FTy → Type} [FloatOps F] (main_arg0 : FVec F S64x64x3 .f32) (main_cst_0 : FVec F S3 .f32) (main_v0 : FVec F S64x64x32x80x3 .f32) (main_v12 : FVec F S64x64x32 .f32) (main_v24 : IVec S64x64x32x32 1) (main_v25 : IVec S64x64 32) (main_v33 : FVec F S64x64x32 .f32) (main_v34 : IVec S64x64 32) (main_v36 : IVec S64x64x1x32 1) : IVec S64x64x6x16x3 1 × IVec S64x64x6 1 :=
  let main_v37 : IVec S64x64x32 1 := shapeCast S64x64x32 main_v36 shapeCasts_S64x64x1x32_S64x64x32
  let main_cst_8 : FVec F S_ .f32 := constant S_ .f32 0x42C80000#32
  let main_v38 : FVec F S64x64x32 .f32 := broadcastInDim S64x64x32 ![] bcast_S_S64x64x32 main_cst_8
  let main_v39 : FVec F S64x64x32 .f32 := Host.divf main_v33 main_v38
  let main_v40 : FVec F S64x64x32 .f32 := fn_where (F := F) main_v37 main_v39 main_v33
  let main_v41 : IVec S64x64x32 1 := fn_one_hot (F := F) main_v34
  let main_cst_9 : FVec F S_ .f32 := constant S_ .f32 0xBF800000#32
  let main_v42 : FVec F S64x64x32 .f32 := fn_where_0 (F := F) main_v41 main_cst_9 main_v40
  let main_values_10 : FVec F S64x64x1 .f32 := (fun x => (Host.topK S64x64x1 2 (FloatOps.cmpfTotal .gt) x sliceFits_S64x64x32_S64x64x1).1) main_v42
  let main_indices_11 : IVec S64x64x1 32 := (fun x => (Host.topK S64x64x1 2 (FloatOps.cmpfTotal .gt) x sliceFits_S64x64x32_S64x64x1).2) main_v42
  let main_v43 : IVec S64x64 32 := shapeCast S64x64 main_indices_11 shapeCasts_S64x64x1_S64x64
  let main_v44 : IVec S64x64x1x1 32 := broadcastInDim S64x64x1x1 ![0, 1] bcast_S64x64_S64x64x1x1_0_1 main_v43
  let main_v45 : IVec S64x64x1x32 1 := fn_take_along_axis (F := F) main_v24 main_v44
  let main_v46 : IVec S64x64x32 1 := shapeCast S64x64x32 main_v45 shapeCasts_S64x64x1x32_S64x64x32
  let main_cst_12 : FVec F S_ .f32 := constant S_ .f32 0x42C80000#32
  let main_v47 : FVec F S64x64x32 .f32 := broadcastInDim S64x64x32 ![] bcast_S_S64x64x32 main_cst_12
  let main_v48 : FVec F S64x64x32 .f32 := Host.divf main_v42 main_v47
  let main_v49 : FVec F S64x64x32 .f32 := fn_where (F := F) main_v46 main_v48 main_v42
  let main_v50 : IVec S64x64x32 1 := fn_one_hot (F := F) main_v43
  let main_cst_13 : FVec F S_ .f32 := constant S_ .f32 0xBF800000#32
  let main_v51 : FVec F S64x64x32 .f32 := fn_where_0 (F := F) main_v50 main_cst_13 main_v49
  let main_values_14 : FVec F S64x64x1 .f32 := (fun x => (Host.topK S64x64x1 2 (FloatOps.cmpfTotal .gt) x sliceFits_S64x64x32_S64x64x1).1) main_v51
  let main_indices_15 : IVec S64x64x1 32 := (fun x => (Host.topK S64x64x1 2 (FloatOps.cmpfTotal .gt) x sliceFits_S64x64x32_S64x64x1).2) main_v51
  let main_v52 : IVec S64x64 32 := shapeCast S64x64 main_indices_15 shapeCasts_S64x64x1_S64x64
  fn_part3 (F := F) main_arg0 main_cst_0 main_v0 main_v12 main_v24 main_v25 main_v34 main_v43 main_v51 main_v52

def fn_part1 {F : FTy → Type} [FloatOps F] (main_arg0 : FVec F S64x64x3 .f32) (main_cst_0 : FVec F S3 .f32) (main_v0 : FVec F S64x64x32x80x3 .f32) (main_v12 : FVec F S64x64x32 .f32) (main_v13 : FVec F S64x64 .f32) (main_v17 : FVec F S64x64x1x32x2 .f32) (main_v18 : FVec F S64x64x32x32x2 .f32) : IVec S64x64x6x16x3 1 × IVec S64x64x6 1 :=
  let main_v19 : FVec F S64x64x32x32x2 .f32 := broadcastInDim S64x64x32x32x2 ![0, 1, 2, 3, 4] bcast_S64x64x1x32x2_S64x64x32x32x2_0_1_2_3_4 main_v17
  let main_v20 : FVec F S64x64x32x32x2 .f32 := subf main_v18 main_v19
  let main_v21 : FVec F S64x64x32x32 .f32 := fn_norm (F := F) main_v20
  let main_v22 : FVec F S64x64x1x1 .f32 := broadcastInDim S64x64x1x1 ![0, 1] bcast_S64x64_S64x64x1x1_0_1 main_v13
  let main_v23 : FVec F S64x64x32x32 .f32 := broadcastInDim S64x64x32x32 ![0, 1, 2, 3] bcast_S64x64x1x1_S64x64x32x32_0_1_2_3 main_v22
  let main_v24 : IVec S64x64x32x32 1 := cmpf .olt main_v21 main_v23
  let main_values : FVec F S64x64x1 .f32 := (fun x => (Host.topK S64x64x1 2 (FloatOps.cmpfTotal .gt) x sliceFits_S64x64x32_S64x64x1).1) main_v12
  let main_indices : IVec S64x64x1 32 := (fun x => (Host.topK S64x64x1 2 (FloatOps.cmpfTotal .gt) x sliceFits_S64x64x32_S64x64x1).2) main_v12
  let main_v25 : IVec S64x64 32 := shapeCast S64x64 main_indices shapeCasts_S64x64x1_S64x64
  let main_v26 : IVec S64x64x1x1 32 := broadcastInDim S64x64x1x1 ![0, 1] bcast_S64x64_S64x64x1x1_0_1 main_v25
  let main_v27 : IVec S64x64x1x32 1 := fn_take_along_axis (F := F) main_v24 main_v26
  let main_v28 : IVec S64x64x32 1 := shapeCast S64x64x32 main_v27 shapeCasts_S64x64x1x32_S64x64x32
  let main_cst_4 : FVec F S_ .f32 := constant S_ .f32 0x42C80000#32
  let main_v29 : FVec F S64x64x32 .f32 := broadcastInDim S64x64x32 ![] bcast_S_S64x64x32 main_cst_4
  let main_v30 : FVec F S64x64x32 .f32 := Host.divf main_v12 main_v29
  let main_v31 : FVec F S64x64x32 .f32 := fn_where (F := F) main_v28 main_v30 main_v12
  let main_v32 : IVec S64x64x32 1 := fn_one_hot (F := F) main_v25
  let main_cst_5 : FVec F S_ .f32 := constant S_ .f32 0xBF800000#32
  let main_v33 : FVec F S64x64x32 .f32 := fn_where_0 (F := F) main_v32 main_cst_5 main_v31
  let main_values_6 : FVec F S64x64x1 .f32 := (fun x => (Host.topK S64x64x1 2 (FloatOps.cmpfTotal .gt) x sliceFits_S64x64x32_S64x64x1).1) main_v33
  let main_indices_7 : IVec S64x64x1 32 := (fun x => (Host.topK S64x64x1 2 (FloatOps.cmpfTotal .gt) x sliceFits_S64x64x32_S64x64x1).2) main_v33
  let main_v34 : IVec S64x64 32 := shapeCast S64x64 main_indices_7 shapeCasts_S64x64x1_S64x64
  let main_v35 : IVec S64x64x1x1 32 := broadcastInDim S64x64x1x1 ![0, 1] bcast_S64x64_S64x64x1x1_0_1 main_v34
  let main_v36 : IVec S64x64x1x32 1 := fn_take_along_axis (F := F) main_v24 main_v35
  fn_part2 (F := F) main_arg0 main_cst_0 main_v0 main_v12 main_v24 main_v25 main_v33 main_v34 main_v36

def fn {F : FTy → Type} [FloatOps F] (main_arg0 : FVec F S64x64x3 .f32) (main_arg1 : FVec F S64x32x64x80x3 .f32) (main_arg2 : FVec F S64x32x64 .f32) : IVec S64x64x6x16x3 1 × IVec S64x64x6 1 :=
  let main_cst : FVec F S3 .f32 := fun i => FloatOps.ofBits .f32 (lit0 (S3.rowMajor i))
  let main_cst_0 : FVec F S3 .f32 := fun i => FloatOps.ofBits .f32 (lit1 (S3.rowMajor i))
  let main_v0 : FVec F S64x64x32x80x3 .f32 := (transpose S64x64x32x80x3 [0, 2, 1, 3, 4] · transposes_S64x32x64x80x3_S64x64x32x80x3_0_2_1_3_4) main_arg1
  let main_v1 : FVec F S64x64x32 .f32 := (transpose S64x64x32 [0, 2, 1] · transposes_S64x32x64_S64x64x32_0_2_1) main_arg2
  let main_cst_1 : FVec F S_ .f32 := constant S_ .f32 0xFF800000#32
  let main_v2 : FVec F S64x64 .f32 := (fun x v => Host.reduce FloatOps.maximumf x v reducesTo_S64x64x32_S64x64_d2 h_S_) main_v1 main_cst_1
  let main_cst_2 : FVec F S_ .f32 := constant S_ .f32 0xFF800000#32
  let main_v3 : FVec F S64x64 .f32 := broadcastInDim S64x64 ![] bcast_S_S64x64 main_cst_2
  let main_v4 : FVec F S64x64 .f32 := maximumf main_v3 main_v2
  let main_v5 : FVec F S64x64x1 .f32 := broadcastInDim S64x64x1 ![0, 1] bcast_S64x64_S64x64x1_0_1 main_v4
  let main_v6 : FVec F S64x64x32 .f32 := broadcastInDim S64x64x32 ![0, 1, 2] bcast_S64x64x1_S64x64x32_0_1_2 main_v5
  let main_v7 : FVec F S64x64x32 .f32 := subf main_v1 main_v6
  let main_v8 : FVec F S64x64x32 .f32 := Host.exp main_v7
  let main_cst_3 : FVec F S_ .f32 := constant S_ .f32 0x00000000#32
  let main_v9 : FVec F S64x64 .f32 := (fun x v => Host.reduceAdd x v reducesTo_S64x64x32_S64x64_d2 h_S_) main_v8 main_cst_3
  let main_v10 : FVec F S64x64x1 .f32 := broadcastInDim S64x64x1 ![0, 1] bcast_S64x64_S64x64x1_0_1 main_v9
  let main_v11 : FVec F S64x64x32 .f32 := broadcastInDim S64x64x32 ![0, 1, 2] bcast_S64x64x1_S64x64x32_0_1_2 main_v10
  let main_v12 : FVec F S64x64x32 .f32 := Host.divf main_v8 main_v11
  let main_v13 : FVec F S64x64 .f32 := (fun l r => Host.dotGeneral dot_S64x64x3_S3_S64x64_2_0_01_n_n_n none l r) main_arg0 main_cst
  let main_v14 : FVec F S64x64x32x1x2 .f32 := (extractStridedSlice S64x64x32x1x2 ![0, 0, 0, 79, 0] · slices_S64x64x32x80x3_S64x64x32x1x2_0_0_0_79_0) main_v0
  let main_v15 : FVec F S64x64x32x2 .f32 := shapeCast S64x64x32x2 main_v14 shapeCasts_S64x64x32x1x2_S64x64x32x2
  let main_v16 : FVec F S64x64x32x1x2 .f32 := broadcastInDim S64x64x32x1x2 ![0, 1, 2, 4] bcast_S64x64x32x2_S64x64x32x1x2_0_1_2_4 main_v15
  let main_v17 : FVec F S64x64x1x32x2 .f32 := broadcastInDim S64x64x1x32x2 ![0, 1, 3, 4] bcast_S64x64x32x2_S64x64x1x32x2_0_1_3_4 main_v15
  let main_v18 : FVec F S64x64x32x32x2 .f32 := broadcastInDim S64x64x32x32x2 ![0, 1, 2, 3, 4] bcast_S64x64x32x1x2_S64x64x32x32x2_0_1_2_3_4 main_v16
  fn_part1 (F := F) main_arg0 main_cst_0 main_v0 main_v12 main_v13 main_v17 main_v18
-- ==== Kernel.lean ====
abbrev S64x64x3 : Shape := ⟨3, ![64, 64, 3]⟩
abbrev S64x32x64x80x3 : Shape := ⟨5, ![64, 32, 64, 80, 3]⟩
abbrev S64x32x64 : Shape := ⟨3, ![64, 32, 64]⟩
abbrev S64x32x3x64x80 : Shape := ⟨5, ![64, 32, 3, 64, 80]⟩
abbrev S64x3x64 : Shape := ⟨3, ![64, 3, 64]⟩
abbrev S64x6x3x64x16 : Shape := ⟨5, ![64, 6, 3, 64, 16]⟩
abbrev S64x6x64 : Shape := ⟨3, ![64, 6, 64]⟩
abbrev S1x32x64 : Shape := ⟨3, ![1, 32, 64]⟩
abbrev S1x32x3x64x80 : Shape := ⟨5, ![1, 32, 3, 64, 80]⟩
abbrev S1x3x64 : Shape := ⟨3, ![1, 3, 64]⟩
abbrev S1x6x3x64x16 : Shape := ⟨5, ![1, 6, 3, 64, 16]⟩
abbrev S1x6x64 : Shape := ⟨3, ![1, 6, 64]⟩
abbrev S32x64 : Shape := ⟨2, ![32, 64]⟩
abbrev S3x64 : Shape := ⟨2, ![3, 64]⟩
abbrev S1x64 : Shape := ⟨2, ![1, 64]⟩
abbrev S32x64x80 : Shape := ⟨3, ![32, 64, 80]⟩
abbrev S1x32x1x64x80 : Shape := ⟨5, ![1, 32, 1, 64, 80]⟩
abbrev S64 : Shape := ⟨1, ![64]⟩
abbrev S1x80 : Shape := ⟨2, ![1, 80]⟩
abbrev S80x16 : Shape := ⟨2, ![80, 16]⟩
abbrev S64x80 : Shape := ⟨2, ![64, 80]⟩
abbrev S1x64x80 : Shape := ⟨3, ![1, 64, 80]⟩
abbrev S64x16 : Shape := ⟨2, ![64, 16]⟩
abbrev S1x1x1x64x16 : Shape := ⟨5, ![1, 1, 1, 64, 16]⟩
abbrev S1x1x64 : Shape := ⟨3, ![1, 1, 64]⟩
abbrev S64x64x6 : Shape := ⟨3, ![64, 64, 6]⟩
abbrev S64x64x6x16x3 : Shape := ⟨5, ![64, 64, 6, 16, 3]⟩

abbrev nBuf : Space → Nat
  | .hbm => 9
  | .vmem => 10
  | .smem => 0
  | _ => 0

abbrev bufTy : (tb : Table) → Fin (tcTables nBuf tb) → BufTy
  | .hbm, ⟨0, _⟩ => ⟨S64x64x3, .f32⟩
  | .hbm, ⟨1, _⟩ => ⟨S64x32x64x80x3, .f32⟩
  | .hbm, ⟨2, _⟩ => ⟨S64x32x64, .f32⟩
  | .hbm, ⟨3, _⟩ => ⟨S64x32x3x64x80, .f32⟩
  | .hbm, ⟨4, _⟩ => ⟨S64x3x64, .f32⟩
  | .hbm, ⟨5, _⟩ => ⟨S64x6x3x64x16, .f32⟩
  | .hbm, ⟨6, _⟩ => ⟨S64x6x64, .f32⟩
  | .hbm, ⟨7, _⟩ => ⟨S64x64x6, .f32⟩
  | .hbm, ⟨8, _⟩ => ⟨S64x64x6x16x3, .f32⟩
  | .local _ .vmem, ⟨0, _⟩ => ⟨S1x32x64, .f32⟩
  | .local _ .vmem, ⟨1, _⟩ => ⟨S1x32x64, .f32⟩
  | .local _ .vmem, ⟨2, _⟩ => ⟨S1x32x3x64x80, .f32⟩
  | .local _ .vmem, ⟨3, _⟩ => ⟨S1x32x3x64x80, .f32⟩
  | .local _ .vmem, ⟨4, _⟩ => ⟨S1x3x64, .f32⟩
  | .local _ .vmem, ⟨5, _⟩ => ⟨S1x3x64, .f32⟩
  | .local _ .vmem, ⟨6, _⟩ => ⟨S1x6x3x64x16, .f32⟩
  | .local _ .vmem, ⟨7, _⟩ => ⟨S1x6x3x64x16, .f32⟩
  | .local _ .vmem, ⟨8, _⟩ => ⟨S1x6x64, .f32⟩
  | .local _ .vmem, ⟨9, _⟩ => ⟨S1x6x64, .f32⟩
  | _, _ => ⟨S64x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x3x64x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x3x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "c01" => some ((1 / 100 : ℝ) : EReal)
  | _ => none
-- ==== ReferenceIdeal.lean ====
abbrev S64x64x3 : Shape := ⟨3, ![64, 64, 3]⟩
abbrev S64x32x64x80x3 : Shape := ⟨5, ![64, 32, 64, 80, 3]⟩
abbrev S64x32x64 : Shape := ⟨3, ![64, 32, 64]⟩
abbrev S3 : Shape := ⟨1, ![3]⟩
abbrev S64x64x32x80x3 : Shape := ⟨5, ![64, 64, 32, 80, 3]⟩
abbrev S64x64x32 : Shape := ⟨3, ![64, 64, 32]⟩
abbrev S_ : Shape := ⟨0, ![]⟩
abbrev S64x64 : Shape := ⟨2, ![64, 64]⟩
abbrev S64x64x1 : Shape := ⟨3, ![64, 64, 1]⟩
abbrev S64x64x32x1x2 : Shape := ⟨5, ![64, 64, 32, 1, 2]⟩
abbrev S64x64x32x2 : Shape := ⟨4, ![64, 64, 32, 2]⟩
abbrev S64x64x1x32x2 : Shape := ⟨5, ![64, 64, 1, 32, 2]⟩
abbrev S64x64x32x32x2 : Shape := ⟨5, ![64, 64, 32, 32, 2]⟩
abbrev S64x64x32x32 : Shape := ⟨4, ![64, 64, 32, 32]⟩
abbrev S64x64x1x1 : Shape := ⟨4, ![64, 64, 1, 1]⟩
abbrev S1 : Shape := ⟨1, ![1]⟩
abbrev S1x1x1x1 : Shape := ⟨4, ![1, 1, 1, 1]⟩
abbrev S64x64x1x32 : Shape := ⟨4, ![64, 64, 1, 32]⟩
abbrev S1x1x32 : Shape := ⟨3, ![1, 1, 32]⟩
abbrev S64x64x6 : Shape := ⟨3, ![64, 64, 6]⟩
abbrev S64x64x6x1x1 : Shape := ⟨5, ![64, 64, 6, 1, 1]⟩
abbrev S64x64x6x1 : Shape := ⟨4, ![64, 64, 6, 1]⟩
abbrev S64x64x6x80x3 : Shape := ⟨5, ![64, 64, 6, 80, 3]⟩
abbrev S64x64x6x1x2 : Shape := ⟨5, ![64, 64, 6, 1, 2]⟩
abbrev S64x64x6x2 : Shape := ⟨4, ![64, 64, 6, 2]⟩
abbrev S64x64x1x6x2 : Shape := ⟨5, ![64, 64, 1, 6, 2]⟩
abbrev S64x64x6x6x2 : Shape := ⟨5, ![64, 64, 6, 6, 2]⟩
abbrev S64x64x6x6 : Shape := ⟨4, ![64, 64, 6, 6]⟩
abbrev S64x64x1x6 : Shape := ⟨4, ![64, 64, 1, 6]⟩
abbrev S1x1x6 : Shape := ⟨3, ![1, 1, 6]⟩
abbrev S64x64x6x16x3 : Shape := ⟨5, ![64, 64, 6, 16, 3]⟩

abbrev nBuf : Space → Nat
  | .hbm => 821
  | .vmem => 0
  | .smem => 0
  | _ => 0

abbrev hbmTy0_0 (i : Nat) : BufTy := match i % 128 with
  | 0 => ⟨S64x64x3, .f32⟩
  | 1 => ⟨S64x32x64x80x3, .f32⟩
  | 2 => ⟨S64x32x64, .f32⟩
  | 3 => ⟨S3, .f32⟩
  | 4 => ⟨S3, .f32⟩
  | 5 => ⟨S64x64x32x80x3, .f32⟩
  | 6 => ⟨S64x64x32, .f32⟩
  | 7 => ⟨S_, .f32⟩
  | 8 => ⟨S64x64, .f32⟩
  | 9 => ⟨S_, .f32⟩
  | 10 => ⟨S64x64, .f32⟩
  | 11 => ⟨S64x64, .f32⟩
  | 12 => ⟨S64x64x1, .f32⟩
  | 13 => ⟨S64x64x32, .f32⟩
  | 14 => ⟨S64x64x32, .f32⟩
  | 15 => ⟨S64x64x32, .f32⟩
  | 16 => ⟨S_, .f32⟩
  | 17 => ⟨S64x64, .f32⟩
  | 18 => ⟨S64x64x1, .f32⟩
  | 19 => ⟨S64x64x32, .f32⟩
  | 20 => ⟨S64x64x32, .f32⟩
  | 21 => ⟨S64x64, .f32⟩
  | 22 => ⟨S64x64x32x1x2, .f32⟩
  | 23 => ⟨S64x64x32x2, .f32⟩
  | 24 => ⟨S64x64x32x1x2, .f32⟩
  | 25 => ⟨S64x64x1x32x2, .f32⟩
  | 26 => ⟨S64x64x32x32x2, .f32⟩
  | 27 => ⟨S64x64x32x32x2, .f32⟩
  | 28 => ⟨S64x64x32x32x2, .f32⟩
  | 29 => ⟨S64x64x32x32x2, .f32⟩
  | 30 => ⟨S_, .f32⟩
  | 31 => ⟨S64x64x32x32, .f32⟩
  | 32 => ⟨S64x64x32x32, .f32⟩
  | 33 => ⟨S64x64x1x1, .f32⟩
  | 34 => ⟨S64x64x32x32, .f32⟩
  | 35 => ⟨S64x64x32x32, .i1⟩
  | 36 => ⟨S64x64x1, .f32⟩
  | 37 => ⟨S64x64x1, .i32⟩
  | 38 => ⟨S64x64, .i32⟩
  | 39 => ⟨S64x64x1x1, .i32⟩
  | 40 => ⟨S_, .i32⟩
  | 41 => ⟨S64x64x1x1, .i32⟩
  | 42 => ⟨S64x64x1x1, .i1⟩
  | 43 => ⟨S_, .i32⟩
  | 44 => ⟨S64x64x1x1, .i32⟩
  | 45 => ⟨S64x64x1x1, .i32⟩
  | 46 => ⟨S64x64x1x1, .i32⟩
  | 47 => ⟨S1, .i32⟩
  | 48 => ⟨S_, .i32⟩
  | 49 => ⟨S64x64x1x1, .i32⟩
  | 50 => ⟨S64x64x1x1, .i1⟩
  | 51 => ⟨S1x1x1x1, .i32⟩
  | 52 => ⟨S64x64x1x1, .i32⟩
  | 53 => ⟨S64x64x1x1, .i1⟩
  | 54 => ⟨S64x64x1x1, .i1⟩
  | 55 => ⟨S_, .i1⟩
  | 56 => ⟨S64x64x1, .i1⟩
  | 57 => ⟨S64x64x1x32, .i1⟩
  | 58 => ⟨S64x64x1x32, .i1⟩
  | 59 => ⟨S_, .i1⟩
  | 60 => ⟨S64x64x1x32, .i1⟩
  | 61 => ⟨S64x64x1x32, .i1⟩
  | 62 => ⟨S64x64x32, .i1⟩
  | 63 => ⟨S64x64x32, .i1⟩
  | 64 => ⟨S64x64x32, .f32⟩
  | 65 => ⟨S_, .f32⟩
  | 66 => ⟨S64x64x32, .f32⟩
  | 67 => ⟨S64x64x32, .f32⟩
  | 68 => ⟨S_, .f32⟩
  | 69 => ⟨S64x64x32, .f32⟩
  | 70 => ⟨S64x64x32, .f32⟩
  | 71 => ⟨S_, .f32⟩
  | 72 => ⟨S64x64x32, .f32⟩
  | 73 => ⟨S64x64x32, .f32⟩
  | 74 => ⟨S64x64x32, .f32⟩
  | 75 => ⟨S64x64x1, .i32⟩
  | 76 => ⟨S1x1x32, .i32⟩
  | 77 => ⟨S64x64x32, .i32⟩
  | 78 => ⟨S64x64x32, .i32⟩
  | 79 => ⟨S64x64x32, .i1⟩
  | 80 => ⟨S_, .f32⟩
  | 81 => ⟨S_, .f32⟩
  | 82 => ⟨S64x64x32, .f32⟩
  | 83 => ⟨S64x64x32, .f32⟩
  | 84 => ⟨S64x64x1, .f32⟩
  | 85 => ⟨S64x64x1, .i32⟩
  | 86 => ⟨S64x64, .i32⟩
  | 87 => ⟨S64x64x1x1, .i32⟩
  | 88 => ⟨S_, .i32⟩
  | 89 => ⟨S64x64x1x1, .i32⟩
  | 90 => ⟨S64x64x1x1, .i1⟩
  | 91 => ⟨S_, .i32⟩
  | 92 => ⟨S64x64x1x1, .i32⟩
  | 93 => ⟨S64x64x1x1, .i32⟩
  | 94 => ⟨S64x64x1x1, .i32⟩
  | 95 => ⟨S1, .i32⟩
  | 96 => ⟨S_, .i32⟩
  | 97 => ⟨S64x64x1x1, .i32⟩
  | 98 => ⟨S64x64x1x1, .i1⟩
  | 99 => ⟨S1x1x1x1, .i32⟩
  | 100 => ⟨S64x64x1x1, .i32⟩
  | 101 => ⟨S64x64x1x1, .i1⟩
  | 102 => ⟨S64x64x1x1, .i1⟩
  | 103 => ⟨S_, .i1⟩
  | 104 => ⟨S64x64x1, .i1⟩
  | 105 => ⟨S64x64x1x32, .i1⟩
  | 106 => ⟨S64x64x1x32, .i1⟩
  | 107 => ⟨S_, .i1⟩
  | 108 => ⟨S64x64x1x32, .i1⟩
  | 109 => ⟨S64x64x1x32, .i1⟩
  | 110 => ⟨S64x64x32, .i1⟩
  | 111 => ⟨S64x64x32, .i1⟩
  | 112 => ⟨S64x64x32, .f32⟩
  | 113 => ⟨S_, .f32⟩
  | 114 => ⟨S64x64x32, .f32⟩
  | 115 => ⟨S64x64x32, .f32⟩
  | 116 => ⟨S_, .f32⟩
  | 117 => ⟨S64x64x32, .f32⟩
  | 118 => ⟨S64x64x32, .f32⟩
  | 119 => ⟨S_, .f32⟩
  | 120 => ⟨S64x64x32, .f32⟩
  | 121 => ⟨S64x64x32, .f32⟩
  | 122 => ⟨S64x64x32, .f32⟩
  | 123 => ⟨S64x64x1, .i32⟩
  | 124 => ⟨S1x1x32, .i32⟩
  | 125 => ⟨S64x64x32, .i32⟩
  | 126 => ⟨S64x64x32, .i32⟩
  | 127 => ⟨S64x64x32, .i1⟩
  | _ => ⟨S64x64x3, .f32⟩

abbrev hbmTy0_1 (i : Nat) : BufTy := match i % 128 with
  | 0 => ⟨S_, .f32⟩
  | 1 => ⟨S_, .f32⟩
  | 2 => ⟨S64x64x32, .f32⟩
  | 3 => ⟨S64x64x32, .f32⟩
  | 4 => ⟨S64x64x1, .f32⟩
  | 5 => ⟨S64x64x1, .i32⟩
  | 6 => ⟨S64x64, .i32⟩
  | 7 => ⟨S64x64x1x1, .i32⟩
  | 8 => ⟨S_, .i32⟩
  | 9 => ⟨S64x64x1x1, .i32⟩
  | 10 => ⟨S64x64x1x1, .i1⟩
  | 11 => ⟨S_, .i32⟩
  | 12 => ⟨S64x64x1x1, .i32⟩
  | 13 => ⟨S64x64x1x1, .i32⟩
  | 14 => ⟨S64x64x1x1, .i32⟩
  | 15 => ⟨S1, .i32⟩
  | 16 => ⟨S_, .i32⟩
  | 17 => ⟨S64x64x1x1, .i32⟩
  | 18 => ⟨S64x64x1x1, .i1⟩
  | 19 => ⟨S1x1x1x1, .i32⟩
  | 20 => ⟨S64x64x1x1, .i32⟩
  | 21 => ⟨S64x64x1x1, .i1⟩
  | 22 => ⟨S64x64x1x1, .i1⟩
  | 23 => ⟨S_, .i1⟩
  | 24 => ⟨S64x64x1, .i1⟩
  | 25 => ⟨S64x64x1x32, .i1⟩
  | 26 => ⟨S64x64x1x32, .i1⟩
  | 27 => ⟨S_, .i1⟩
  | 28 => ⟨S64x64x1x32, .i1⟩
  | 29 => ⟨S64x64x1x32, .i1⟩
  | 30 => ⟨S64x64x32, .i1⟩
  | 31 => ⟨S64x64x32, .i1⟩
  | 32 => ⟨S64x64x32, .f32⟩
  | 33 => ⟨S_, .f32⟩
  | 34 => ⟨S64x64x32, .f32⟩
  | 35 => ⟨S64x64x32, .f32⟩
  | 36 => ⟨S_, .f32⟩
  | 37 => ⟨S64x64x32, .f32⟩
  | 38 => ⟨S64x64x32, .f32⟩
  | 39 => ⟨S_, .f32⟩
  | 40 => ⟨S64x64x32, .f32⟩
  | 41 => ⟨S64x64x32, .f32⟩
  | 42 => ⟨S64x64x32, .f32⟩
  | 43 => ⟨S64x64x1, .i32⟩
  | 44 => ⟨S1x1x32, .i32⟩
  | 45 => ⟨S64x64x32, .i32⟩
  | 46 => ⟨S64x64x32, .i32⟩
  | 47 => ⟨S64x64x32, .i1⟩
  | 48 => ⟨S_, .f32⟩
  | 49 => ⟨S_, .f32⟩
  | 50 => ⟨S64x64x32, .f32⟩
  | 51 => ⟨S64x64x32, .f32⟩
  | 52 => ⟨S64x64x1, .f32⟩
  | 53 => ⟨S64x64x1, .i32⟩
  | 54 => ⟨S64x64, .i32⟩
  | 55 => ⟨S64x64x1x1, .i32⟩
  | 56 => ⟨S_, .i32⟩
  | 57 => ⟨S64x64x1x1, .i32⟩
  | 58 => ⟨S64x64x1x1, .i1⟩
  | 59 => ⟨S_, .i32⟩
  | 60 => ⟨S64x64x1x1, .i32⟩
  | 61 => ⟨S64x64x1x1, .i32⟩
  | 62 => ⟨S64x64x1x1, .i32⟩
  | 63 => ⟨S1, .i32⟩
  | 64 => ⟨S_, .i32⟩
  | 65 => ⟨S64x64x1x1, .i32⟩
  | 66 => ⟨S64x64x1x1, .i1⟩
  | 67 => ⟨S1x1x1x1, .i32⟩
  | 68 => ⟨S64x64x1x1, .i32⟩
  | 69 => ⟨S64x64x1x1, .i1⟩
  | 70 => ⟨S64x64x1x1, .i1⟩
  | 71 => ⟨S_, .i1⟩
  | 72 => ⟨S64x64x1, .i1⟩
  | 73 => ⟨S64x64x1x32, .i1⟩
  | 74 => ⟨S64x64x1x32, .i1⟩
  | 75 => ⟨S_, .i1⟩
  | 76 => ⟨S64x64x1x32, .i1⟩
  | 77 => ⟨S64x64x1x32, .i1⟩
  | 78 => ⟨S64x64x32, .i1⟩
  | 79 => ⟨S64x64x32, .i1⟩
  | 80 => ⟨S64x64x32, .f32⟩
  | 81 => ⟨S_, .f32⟩
  | 82 => ⟨S64x64x32, .f32⟩
  | 83 => ⟨S64x64x32, .f32⟩
  | 84 => ⟨S_, .f32⟩
  | 85 => ⟨S64x64x32, .f32⟩
  | 86 => ⟨S64x64x32, .f32⟩
  | 87 => ⟨S_, .f32⟩
  | 88 => ⟨S64x64x32, .f32⟩
  | 89 => ⟨S64x64x32, .f32⟩
  | 90 => ⟨S64x64x32, .f32⟩
  | 91 => ⟨S64x64x1, .i32⟩
  | 92 => ⟨S1x1x32, .i32⟩
  | 93 => ⟨S64x64x32, .i32⟩
  | 94 => ⟨S64x64x32, .i32⟩
  | 95 => ⟨S64x64x32, .i1⟩
  | 96 => ⟨S_, .f32⟩
  | 97 => ⟨S_, .f32⟩
  | 98 => ⟨S64x64x32, .f32⟩
  | 99 => ⟨S64x64x32, .f32⟩
  | 100 => ⟨S64x64x1, .f32⟩
  | 101 => ⟨S64x64x1, .i32⟩
  | 102 => ⟨S64x64, .i32⟩
  | 103 => ⟨S64x64x1x1, .i32⟩
  | 104 => ⟨S_, .i32⟩
  | 105 => ⟨S64x64x1x1, .i32⟩
  | 106 => ⟨S64x64x1x1, .i1⟩
  | 107 => ⟨S_, .i32⟩
  | 108 => ⟨S64x64x1x1, .i32⟩
  | 109 => ⟨S64x64x1x1, .i32⟩
  | 110 => ⟨S64x64x1x1, .i32⟩
  | 111 => ⟨S1, .i32⟩
  | 112 => ⟨S_, .i32⟩
  | 113 => ⟨S64x64x1x1, .i32⟩
  | 114 => ⟨S64x64x1x1, .i1⟩
  | 115 => ⟨S1x1x1x1, .i32⟩
  | 116 => ⟨S64x64x1x1, .i32⟩
  | 117 => ⟨S64x64x1x1, .i1⟩
  | 118 => ⟨S64x64x1x1, .i1⟩
  | 119 => ⟨S_, .i1⟩
  | 120 => ⟨S64x64x1, .i1⟩
  | 121 => ⟨S64x64x1x32, .i1⟩
  | 122 => ⟨S64x64x1x32, .i1⟩
  | 123 => ⟨S_, .i1⟩
  | 124 => ⟨S64x64x1x32, .i1⟩
  | 125 => ⟨S64x64x1x32, .i1⟩
  | 126 => ⟨S64x64x32, .i1⟩
  | 127 => ⟨S64x64x32, .i1⟩
  | _ => ⟨S64x64x3, .f32⟩

abbrev hbmTy0_2 (i : Nat) : BufTy := match i % 128 with
  | 0 => ⟨S64x64x32, .f32⟩
  | 1 => ⟨S_, .f32⟩
  | 2 => ⟨S64x64x32, .f32⟩
  | 3 => ⟨S64x64x32, .f32⟩
  | 4 => ⟨S_, .f32⟩
  | 5 => ⟨S64x64x32, .f32⟩
  | 6 => ⟨S64x64x32, .f32⟩
  | 7 => ⟨S_, .f32⟩
  | 8 => ⟨S64x64x32, .f32⟩
  | 9 => ⟨S64x64x32, .f32⟩
  | 10 => ⟨S64x64x32, .f32⟩
  | 11 => ⟨S64x64x1, .i32⟩
  | 12 => ⟨S1x1x32, .i32⟩
  | 13 => ⟨S64x64x32, .i32⟩
  | 14 => ⟨S64x64x32, .i32⟩
  | 15 => ⟨S64x64x32, .i1⟩
  | 16 => ⟨S_, .f32⟩
  | 17 => ⟨S_, .f32⟩
  | 18 => ⟨S64x64x32, .f32⟩
  | 19 => ⟨S64x64x32, .f32⟩
  | 20 => ⟨S64x64x1, .f32⟩
  | 21 => ⟨S64x64x1, .i32⟩
  | 22 => ⟨S64x64, .i32⟩
  | 23 => ⟨S64x64x1x1, .i32⟩
  | 24 => ⟨S_, .i32⟩
  | 25 => ⟨S64x64x1x1, .i32⟩
  | 26 => ⟨S64x64x1x1, .i1⟩
  | 27 => ⟨S_, .i32⟩
  | 28 => ⟨S64x64x1x1, .i32⟩
  | 29 => ⟨S64x64x1x1, .i32⟩
  | 30 => ⟨S64x64x1x1, .i32⟩
  | 31 => ⟨S1, .i32⟩
  | 32 => ⟨S_, .i32⟩
  | 33 => ⟨S64x64x1x1, .i32⟩
  | 34 => ⟨S64x64x1x1, .i1⟩
  | 35 => ⟨S1x1x1x1, .i32⟩
  | 36 => ⟨S64x64x1x1, .i32⟩
  | 37 => ⟨S64x64x1x1, .i1⟩
  | 38 => ⟨S64x64x1x1, .i1⟩
  | 39 => ⟨S_, .i1⟩
  | 40 => ⟨S64x64x1, .i1⟩
  | 41 => ⟨S64x64x1x32, .i1⟩
  | 42 => ⟨S64x64x1x32, .i1⟩
  | 43 => ⟨S_, .i1⟩
  | 44 => ⟨S64x64x1x32, .i1⟩
  | 45 => ⟨S64x64x1x32, .i1⟩
  | 46 => ⟨S64x64x32, .i1⟩
  | 47 => ⟨S64x64x32, .i1⟩
  | 48 => ⟨S64x64x32, .f32⟩
  | 49 => ⟨S_, .f32⟩
  | 50 => ⟨S64x64x32, .f32⟩
  | 51 => ⟨S64x64x32, .f32⟩
  | 52 => ⟨S_, .f32⟩
  | 53 => ⟨S64x64x32, .f32⟩
  | 54 => ⟨S64x64x32, .f32⟩
  | 55 => ⟨S_, .f32⟩
  | 56 => ⟨S64x64x32, .f32⟩
  | 57 => ⟨S64x64x32, .f32⟩
  | 58 => ⟨S64x64x32, .f32⟩
  | 59 => ⟨S64x64x1, .i32⟩
  | 60 => ⟨S1x1x32, .i32⟩
  | 61 => ⟨S64x64x32, .i32⟩
  | 62 => ⟨S64x64x32, .i32⟩
  | 63 => ⟨S64x64x32, .i1⟩
  | 64 => ⟨S_, .f32⟩
  | 65 => ⟨S_, .f32⟩
  | 66 => ⟨S64x64x32, .f32⟩
  | 67 => ⟨S64x64x32, .f32⟩
  | 68 => ⟨S64x64x1, .i32⟩
  | 69 => ⟨S64x64x1, .i32⟩
  | 70 => ⟨S64x64x1, .i32⟩
  | 71 => ⟨S64x64x1, .i32⟩
  | 72 => ⟨S64x64x1, .i32⟩
  | 73 => ⟨S64x64x1, .i32⟩
  | 74 => ⟨S64x64x6, .i32⟩
  | 75 => ⟨S64x64x6x1x1, .i32⟩
  | 76 => ⟨S_, .i32⟩
  | 77 => ⟨S64x64x6x1x1, .i32⟩
  | 78 => ⟨S64x64x6x1x1, .i1⟩
  | 79 => ⟨S_, .i32⟩
  | 80 => ⟨S64x64x6x1x1, .i32⟩
  | 81 => ⟨S64x64x6x1x1, .i32⟩
  | 82 => ⟨S64x64x6x1x1, .i32⟩
  | 83 => ⟨S64x64x6x1, .i32⟩
  | 84 => ⟨S1, .i32⟩
  | 85 => ⟨S_, .i32⟩
  | 86 => ⟨S64x64x6x1, .i32⟩
  | 87 => ⟨S64x64x6x1, .i1⟩
  | 88 => ⟨S1x1x1x1, .i32⟩
  | 89 => ⟨S64x64x6x1, .i32⟩
  | 90 => ⟨S64x64x6x1, .i1⟩
  | 91 => ⟨S64x64x6x1, .i1⟩
  | 92 => ⟨S_, .i1⟩
  | 93 => ⟨S64x64x6, .i1⟩
  | 94 => ⟨S64x64x6x80x3, .f32⟩
  | 95 => ⟨S64x64x6x80x3, .i1⟩
  | 96 => ⟨S_, .f32⟩
  | 97 => ⟨S64x64x6x80x3, .f32⟩
  | 98 => ⟨S64x64x6x80x3, .f32⟩
  | 99 => ⟨S_, .i32⟩
  | 100 => ⟨S64x64x6, .i32⟩
  | 101 => ⟨S64x64x6, .i1⟩
  | 102 => ⟨S_, .i32⟩
  | 103 => ⟨S64x64x6, .i32⟩
  | 104 => ⟨S64x64x6, .i32⟩
  | 105 => ⟨S64x64x6, .i32⟩
  | 106 => ⟨S64x64x6x1, .i32⟩
  | 107 => ⟨S1, .i32⟩
  | 108 => ⟨S_, .i32⟩
  | 109 => ⟨S64x64x6x1, .i32⟩
  | 110 => ⟨S64x64x6x1, .i1⟩
  | 111 => ⟨S1x1x1x1, .i32⟩
  | 112 => ⟨S64x64x6x1, .i32⟩
  | 113 => ⟨S64x64x6x1, .i1⟩
  | 114 => ⟨S64x64x6x1, .i1⟩
  | 115 => ⟨S_, .i1⟩
  | 116 => ⟨S64x64x6, .i1⟩
  | 117 => ⟨S64x64x6, .f32⟩
  | 118 => ⟨S_, .f32⟩
  | 119 => ⟨S64x64x6, .f32⟩
  | 120 => ⟨S64x64x6, .f32⟩
  | 121 => ⟨S_, .f32⟩
  | 122 => ⟨S64x64, .f32⟩
  | 123 => ⟨S64x64x1, .f32⟩
  | 124 => ⟨S64x64x6, .f32⟩
  | 125 => ⟨S64x64x6, .f32⟩
  | 126 => ⟨S64x64, .f32⟩
  | 127 => ⟨S64x64x6x1x2, .f32⟩
  | _ => ⟨S64x64x3, .f32⟩

abbrev hbmTy0_3 (i : Nat) : BufTy := match i % 128 with
  | 0 => ⟨S64x64x6x2, .f32⟩
  | 1 => ⟨S64x64x6x1x2, .f32⟩
  | 2 => ⟨S64x64x1x6x2, .f32⟩
  | 3 => ⟨S64x64x6x6x2, .f32⟩
  | 4 => ⟨S64x64x6x6x2, .f32⟩
  | 5 => ⟨S64x64x6x6x2, .f32⟩
  | 6 => ⟨S64x64x6x6x2, .f32⟩
  | 7 => ⟨S_, .f32⟩
  | 8 => ⟨S64x64x6x6, .f32⟩
  | 9 => ⟨S64x64x6x6, .f32⟩
  | 10 => ⟨S64x64x1x1, .f32⟩
  | 11 => ⟨S64x64x6x6, .f32⟩
  | 12 => ⟨S64x64x6x6, .i1⟩
  | 13 => ⟨S64x64x6, .f32⟩
  | 14 => ⟨S64x64x6, .i32⟩
  | 15 => ⟨S64x64x6, .f32⟩
  | 16 => ⟨S64x64x6, .i32⟩
  | 17 => ⟨S64x64x1, .i32⟩
  | 18 => ⟨S64x64, .i32⟩
  | 19 => ⟨S64x64x1, .i32⟩
  | 20 => ⟨S_, .i32⟩
  | 21 => ⟨S64x64x1, .i32⟩
  | 22 => ⟨S64x64x1, .i1⟩
  | 23 => ⟨S_, .i32⟩
  | 24 => ⟨S64x64x1, .i32⟩
  | 25 => ⟨S64x64x1, .i32⟩
  | 26 => ⟨S64x64x1, .i32⟩
  | 27 => ⟨S64x64x1x1, .i32⟩
  | 28 => ⟨S1, .i32⟩
  | 29 => ⟨S_, .i32⟩
  | 30 => ⟨S64x64x1x1, .i32⟩
  | 31 => ⟨S64x64x1x1, .i1⟩
  | 32 => ⟨S1x1x1x1, .i32⟩
  | 33 => ⟨S64x64x1x1, .i32⟩
  | 34 => ⟨S64x64x1x1, .i1⟩
  | 35 => ⟨S64x64x1x1, .i1⟩
  | 36 => ⟨S_, .i1⟩
  | 37 => ⟨S64x64x1, .i1⟩
  | 38 => ⟨S64x64x1, .f32⟩
  | 39 => ⟨S_, .f32⟩
  | 40 => ⟨S64x64x1, .f32⟩
  | 41 => ⟨S64x64x1, .f32⟩
  | 42 => ⟨S64x64x1x1, .i32⟩
  | 43 => ⟨S_, .i32⟩
  | 44 => ⟨S64x64x1x1, .i32⟩
  | 45 => ⟨S64x64x1x1, .i1⟩
  | 46 => ⟨S_, .i32⟩
  | 47 => ⟨S64x64x1x1, .i32⟩
  | 48 => ⟨S64x64x1x1, .i32⟩
  | 49 => ⟨S64x64x1x1, .i32⟩
  | 50 => ⟨S1, .i32⟩
  | 51 => ⟨S_, .i32⟩
  | 52 => ⟨S64x64x1x1, .i32⟩
  | 53 => ⟨S64x64x1x1, .i1⟩
  | 54 => ⟨S1x1x1x1, .i32⟩
  | 55 => ⟨S64x64x1x1, .i32⟩
  | 56 => ⟨S64x64x1x1, .i1⟩
  | 57 => ⟨S64x64x1x1, .i1⟩
  | 58 => ⟨S_, .i1⟩
  | 59 => ⟨S64x64x1, .i1⟩
  | 60 => ⟨S64x64x1x6, .i1⟩
  | 61 => ⟨S64x64x1x6, .i1⟩
  | 62 => ⟨S_, .i1⟩
  | 63 => ⟨S64x64x1x6, .i1⟩
  | 64 => ⟨S64x64x1x6, .i1⟩
  | 65 => ⟨S64x64x6, .i1⟩
  | 66 => ⟨S64x64x6, .f32⟩
  | 67 => ⟨S64x64x6, .i1⟩
  | 68 => ⟨S64x64x6, .i1⟩
  | 69 => ⟨S_, .i1⟩
  | 70 => ⟨S64x64, .i1⟩
  | 71 => ⟨S64x64x1, .i1⟩
  | 72 => ⟨S_, .f32⟩
  | 73 => ⟨S_, .f32⟩
  | 74 => ⟨S64x64x1, .f32⟩
  | 75 => ⟨S64x64x1, .f32⟩
  | 76 => ⟨S64x64x1, .i32⟩
  | 77 => ⟨S1x1x6, .i32⟩
  | 78 => ⟨S64x64x6, .i32⟩
  | 79 => ⟨S64x64x6, .i32⟩
  | 80 => ⟨S64x64x6, .i1⟩
  | 81 => ⟨S64x64x6, .f32⟩
  | 82 => ⟨S64x64x6, .f32⟩
  | 83 => ⟨S64x64x1, .i32⟩
  | 84 => ⟨S64x64, .i32⟩
  | 85 => ⟨S64x64x1, .i32⟩
  | 86 => ⟨S_, .i32⟩
  | 87 => ⟨S64x64x1, .i32⟩
  | 88 => ⟨S64x64x1, .i1⟩
  | 89 => ⟨S_, .i32⟩
  | 90 => ⟨S64x64x1, .i32⟩
  | 91 => ⟨S64x64x1, .i32⟩
  | 92 => ⟨S64x64x1, .i32⟩
  | 93 => ⟨S64x64x1x1, .i32⟩
  | 94 => ⟨S1, .i32⟩
  | 95 => ⟨S_, .i32⟩
  | 96 => ⟨S64x64x1x1, .i32⟩
  | 97 => ⟨S64x64x1x1, .i1⟩
  | 98 => ⟨S1x1x1x1, .i32⟩
  | 99 => ⟨S64x64x1x1, .i32⟩
  | 100 => ⟨S64x64x1x1, .i1⟩
  | 101 => ⟨S64x64x1x1, .i1⟩
  | 102 => ⟨S_, .i1⟩
  | 103 => ⟨S64x64x1, .i1⟩
  | 104 => ⟨S64x64x1, .f32⟩
  | 105 => ⟨S_, .f32⟩
  | 106 => ⟨S64x64x1, .f32⟩
  | 107 => ⟨S64x64x1, .f32⟩
  | 108 => ⟨S64x64x1x1, .i32⟩
  | 109 => ⟨S_, .i32⟩
  | 110 => ⟨S64x64x1x1, .i32⟩
  | 111 => ⟨S64x64x1x1, .i1⟩
  | 112 => ⟨S_, .i32⟩
  | 113 => ⟨S64x64x1x1, .i32⟩
  | 114 => ⟨S64x64x1x1, .i32⟩
  | 115 => ⟨S64x64x1x1, .i32⟩
  | 116 => ⟨S1, .i32⟩
  | 117 => ⟨S_, .i32⟩
  | 118 => ⟨S64x64x1x1, .i32⟩
  | 119 => ⟨S64x64x1x1, .i1⟩
  | 120 => ⟨S1x1x1x1, .i32⟩
  | 121 => ⟨S64x64x1x1, .i32⟩
  | 122 => ⟨S64x64x1x1, .i1⟩
  | 123 => ⟨S64x64x1x1, .i1⟩
  | 124 => ⟨S_, .i1⟩
  | 125 => ⟨S64x64x1, .i1⟩
  | 126 => ⟨S64x64x1x6, .i1⟩
  | 127 => ⟨S64x64x1x6, .i1⟩
  | _ => ⟨S64x64x3, .f32⟩

abbrev hbmTy0_4 (i : Nat) : BufTy := match i % 128 with
  | 0 => ⟨S_, .i1⟩
  | 1 => ⟨S64x64x1x6, .i1⟩
  | 2 => ⟨S64x64x1x6, .i1⟩
  | 3 => ⟨S64x64x6, .i1⟩
  | 4 => ⟨S64x64x6, .f32⟩
  | 5 => ⟨S64x64x6, .i1⟩
  | 6 => ⟨S64x64x6, .i1⟩
  | 7 => ⟨S_, .i1⟩
  | 8 => ⟨S64x64, .i1⟩
  | 9 => ⟨S64x64x1, .i1⟩
  | 10 => ⟨S_, .f32⟩
  | 11 => ⟨S_, .f32⟩
  | 12 => ⟨S64x64x1, .f32⟩
  | 13 => ⟨S64x64x1, .f32⟩
  | 14 => ⟨S64x64x1, .i32⟩
  | 15 => ⟨S1x1x6, .i32⟩
  | 16 => ⟨S64x64x6, .i32⟩
  | 17 => ⟨S64x64x6, .i32⟩
  | 18 => ⟨S64x64x6, .i1⟩
  | 19 => ⟨S64x64x6, .f32⟩
  | 20 => ⟨S64x64x6, .f32⟩
  | 21 => ⟨S64x64x1, .i32⟩
  | 22 => ⟨S64x64, .i32⟩
  | 23 => ⟨S64x64x1, .i32⟩
  | 24 => ⟨S_, .i32⟩
  | 25 => ⟨S64x64x1, .i32⟩
  | 26 => ⟨S64x64x1, .i1⟩
  | 27 => ⟨S_, .i32⟩
  | 28 => ⟨S64x64x1, .i32⟩
  | 29 => ⟨S64x64x1, .i32⟩
  | 30 => ⟨S64x64x1, .i32⟩
  | 31 => ⟨S64x64x1x1, .i32⟩
  | 32 => ⟨S1, .i32⟩
  | 33 => ⟨S_, .i32⟩
  | 34 => ⟨S64x64x1x1, .i32⟩
  | 35 => ⟨S64x64x1x1, .i1⟩
  | 36 => ⟨S1x1x1x1, .i32⟩
  | 37 => ⟨S64x64x1x1, .i32⟩
  | 38 => ⟨S64x64x1x1, .i1⟩
  | 39 => ⟨S64x64x1x1, .i1⟩
  | 40 => ⟨S_, .i1⟩
  | 41 => ⟨S64x64x1, .i1⟩
  | 42 => ⟨S64x64x1, .f32⟩
  | 43 => ⟨S_, .f32⟩
  | 44 => ⟨S64x64x1, .f32⟩
  | 45 => ⟨S64x64x1, .f32⟩
  | 46 => ⟨S64x64x1x1, .i32⟩
  | 47 => ⟨S_, .i32⟩
  | 48 => ⟨S64x64x1x1, .i32⟩
  | 49 => ⟨S64x64x1x1, .i1⟩
  | 50 => ⟨S_, .i32⟩
  | 51 => ⟨S64x64x1x1, .i32⟩
  | 52 => ⟨S64x64x1x1, .i32⟩
  | 53 => ⟨S64x64x1x1, .i32⟩
  | 54 => ⟨S1, .i32⟩
  | 55 => ⟨S_, .i32⟩
  | 56 => ⟨S64x64x1x1, .i32⟩
  | 57 => ⟨S64x64x1x1, .i1⟩
  | 58 => ⟨S1x1x1x1, .i32⟩
  | 59 => ⟨S64x64x1x1, .i32⟩
  | 60 => ⟨S64x64x1x1, .i1⟩
  | 61 => ⟨S64x64x1x1, .i1⟩
  | 62 => ⟨S_, .i1⟩
  | 63 => ⟨S64x64x1, .i1⟩
  | 64 => ⟨S64x64x1x6, .i1⟩
  | 65 => ⟨S64x64x1x6, .i1⟩
  | 66 => ⟨S_, .i1⟩
  | 67 => ⟨S64x64x1x6, .i1⟩
  | 68 => ⟨S64x64x1x6, .i1⟩
  | 69 => ⟨S64x64x6, .i1⟩
  | 70 => ⟨S64x64x6, .f32⟩
  | 71 => ⟨S64x64x6, .i1⟩
  | 72 => ⟨S64x64x6, .i1⟩
  | 73 => ⟨S_, .i1⟩
  | 74 => ⟨S64x64, .i1⟩
  | 75 => ⟨S64x64x1, .i1⟩
  | 76 => ⟨S_, .f32⟩
  | 77 => ⟨S_, .f32⟩
  | 78 => ⟨S64x64x1, .f32⟩
  | 79 => ⟨S64x64x1, .f32⟩
  | 80 => ⟨S64x64x1, .i32⟩
  | 81 => ⟨S1x1x6, .i32⟩
  | 82 => ⟨S64x64x6, .i32⟩
  | 83 => ⟨S64x64x6, .i32⟩
  | 84 => ⟨S64x64x6, .i1⟩
  | 85 => ⟨S64x64x6, .f32⟩
  | 86 => ⟨S64x64x6, .f32⟩
  | 87 => ⟨S64x64x1, .i32⟩
  | 88 => ⟨S64x64, .i32⟩
  | 89 => ⟨S64x64x1, .i32⟩
  | 90 => ⟨S_, .i32⟩
  | 91 => ⟨S64x64x1, .i32⟩
  | 92 => ⟨S64x64x1, .i1⟩
  | 93 => ⟨S_, .i32⟩
  | 94 => ⟨S64x64x1, .i32⟩
  | 95 => ⟨S64x64x1, .i32⟩
  | 96 => ⟨S64x64x1, .i32⟩
  | 97 => ⟨S64x64x1x1, .i32⟩
  | 98 => ⟨S1, .i32⟩
  | 99 => ⟨S_, .i32⟩
  | 100 => ⟨S64x64x1x1, .i32⟩
  | 101 => ⟨S64x64x1x1, .i1⟩
  | 102 => ⟨S1x1x1x1, .i32⟩
  | 103 => ⟨S64x64x1x1, .i32⟩
  | 104 => ⟨S64x64x1x1, .i1⟩
  | 105 => ⟨S64x64x1x1, .i1⟩
  | 106 => ⟨S_, .i1⟩
  | 107 => ⟨S64x64x1, .i1⟩
  | 108 => ⟨S64x64x1, .f32⟩
  | 109 => ⟨S_, .f32⟩
  | 110 => ⟨S64x64x1, .f32⟩
  | 111 => ⟨S64x64x1, .f32⟩
  | 112 => ⟨S64x64x1x1, .i32⟩
  | 113 => ⟨S_, .i32⟩
  | 114 => ⟨S64x64x1x1, .i32⟩
  | 115 => ⟨S64x64x1x1, .i1⟩
  | 116 => ⟨S_, .i32⟩
  | 117 => ⟨S64x64x1x1, .i32⟩
  | 118 => ⟨S64x64x1x1, .i32⟩
  | 119 => ⟨S64x64x1x1, .i32⟩
  | 120 => ⟨S1, .i32⟩
  | 121 => ⟨S_, .i32⟩
  | 122 => ⟨S64x64x1x1, .i32⟩
  | 123 => ⟨S64x64x1x1, .i1⟩
  | 124 => ⟨S1x1x1x1, .i32⟩
  | 125 => ⟨S64x64x1x1, .i32⟩
  | 126 => ⟨S64x64x1x1, .i1⟩
  | 127 => ⟨S64x64x1x1, .i1⟩
  | _ => ⟨S64x64x3, .f32⟩

abbrev hbmTy0_5 (i : Nat) : BufTy := match i % 128 with
  | 0 => ⟨S_, .i1⟩
  | 1 => ⟨S64x64x1, .i1⟩
  | 2 => ⟨S64x64x1x6, .i1⟩
  | 3 => ⟨S64x64x1x6, .i1⟩
  | 4 => ⟨S_, .i1⟩
  | 5 => ⟨S64x64x1x6, .i1⟩
  | 6 => ⟨S64x64x1x6, .i1⟩
  | 7 => ⟨S64x64x6, .i1⟩
  | 8 => ⟨S64x64x6, .f32⟩
  | 9 => ⟨S64x64x6, .i1⟩
  | 10 => ⟨S64x64x6, .i1⟩
  | 11 => ⟨S_, .i1⟩
  | 12 => ⟨S64x64, .i1⟩
  | 13 => ⟨S64x64x1, .i1⟩
  | 14 => ⟨S_, .f32⟩
  | 15 => ⟨S_, .f32⟩
  | 16 => ⟨S64x64x1, .f32⟩
  | 17 => ⟨S64x64x1, .f32⟩
  | 18 => ⟨S64x64x1, .i32⟩
  | 19 => ⟨S1x1x6, .i32⟩
  | 20 => ⟨S64x64x6, .i32⟩
  | 21 => ⟨S64x64x6, .i32⟩
  | 22 => ⟨S64x64x6, .i1⟩
  | 23 => ⟨S64x64x6, .f32⟩
  | 24 => ⟨S64x64x6, .f32⟩
  | 25 => ⟨S64x64x1, .i32⟩
  | 26 => ⟨S64x64, .i32⟩
  | 27 => ⟨S64x64x1, .i32⟩
  | 28 => ⟨S_, .i32⟩
  | 29 => ⟨S64x64x1, .i32⟩
  | 30 => ⟨S64x64x1, .i1⟩
  | 31 => ⟨S_, .i32⟩
  | 32 => ⟨S64x64x1, .i32⟩
  | 33 => ⟨S64x64x1, .i32⟩
  | 34 => ⟨S64x64x1, .i32⟩
  | 35 => ⟨S64x64x1x1, .i32⟩
  | 36 => ⟨S1, .i32⟩
  | 37 => ⟨S_, .i32⟩
  | 38 => ⟨S64x64x1x1, .i32⟩
  | 39 => ⟨S64x64x1x1, .i1⟩
  | 40 => ⟨S1x1x1x1, .i32⟩
  | 41 => ⟨S64x64x1x1, .i32⟩
  | 42 => ⟨S64x64x1x1, .i1⟩
  | 43 => ⟨S64x64x1x1, .i1⟩
  | 44 => ⟨S_, .i1⟩
  | 45 => ⟨S64x64x1, .i1⟩
  | 46 => ⟨S64x64x1, .f32⟩
  | 47 => ⟨S_, .f32⟩
  | 48 => ⟨S64x64x1, .f32⟩
  | 49 => ⟨S64x64x1, .f32⟩
  | 50 => ⟨S64x64x1x1, .i32⟩
  | 51 => ⟨S_, .i32⟩
  | 52 => ⟨S64x64x1x1, .i32⟩
  | 53 => ⟨S64x64x1x1, .i1⟩
  | 54 => ⟨S_, .i32⟩
  | 55 => ⟨S64x64x1x1, .i32⟩
  | 56 => ⟨S64x64x1x1, .i32⟩
  | 57 => ⟨S64x64x1x1, .i32⟩
  | 58 => ⟨S1, .i32⟩
  | 59 => ⟨S_, .i32⟩
  | 60 => ⟨S64x64x1x1, .i32⟩
  | 61 => ⟨S64x64x1x1, .i1⟩
  | 62 => ⟨S1x1x1x1, .i32⟩
  | 63 => ⟨S64x64x1x1, .i32⟩
  | 64 => ⟨S64x64x1x1, .i1⟩
  | 65 => ⟨S64x64x1x1, .i1⟩
  | 66 => ⟨S_, .i1⟩
  | 67 => ⟨S64x64x1, .i1⟩
  | 68 => ⟨S64x64x1x6, .i1⟩
  | 69 => ⟨S64x64x1x6, .i1⟩
  | 70 => ⟨S_, .i1⟩
  | 71 => ⟨S64x64x1x6, .i1⟩
  | 72 => ⟨S64x64x1x6, .i1⟩
  | 73 => ⟨S64x64x6, .i1⟩
  | 74 => ⟨S64x64x6, .f32⟩
  | 75 => ⟨S64x64x6, .i1⟩
  | 76 => ⟨S64x64x6, .i1⟩
  | 77 => ⟨S_, .i1⟩
  | 78 => ⟨S64x64, .i1⟩
  | 79 => ⟨S64x64x1, .i1⟩
  | 80 => ⟨S_, .f32⟩
  | 81 => ⟨S_, .f32⟩
  | 82 => ⟨S64x64x1, .f32⟩
  | 83 => ⟨S64x64x1, .f32⟩
  | 84 => ⟨S64x64x1, .i32⟩
  | 85 => ⟨S1x1x6, .i32⟩
  | 86 => ⟨S64x64x6, .i32⟩
  | 87 => ⟨S64x64x6, .i32⟩
  | 88 => ⟨S64x64x6, .i1⟩
  | 89 => ⟨S64x64x6, .f32⟩
  | 90 => ⟨S64x64x6, .f32⟩
  | 91 => ⟨S64x64x1, .i32⟩
  | 92 => ⟨S64x64, .i32⟩
  | 93 => ⟨S64x64x1, .i32⟩
  | 94 => ⟨S_, .i32⟩
  | 95 => ⟨S64x64x1, .i32⟩
  | 96 => ⟨S64x64x1, .i1⟩
  | 97 => ⟨S_, .i32⟩
  | 98 => ⟨S64x64x1, .i32⟩
  | 99 => ⟨S64x64x1, .i32⟩
  | 100 => ⟨S64x64x1, .i32⟩
  | 101 => ⟨S64x64x1x1, .i32⟩
  | 102 => ⟨S1, .i32⟩
  | 103 => ⟨S_, .i32⟩
  | 104 => ⟨S64x64x1x1, .i32⟩
  | 105 => ⟨S64x64x1x1, .i1⟩
  | 106 => ⟨S1x1x1x1, .i32⟩
  | 107 => ⟨S64x64x1x1, .i32⟩
  | 108 => ⟨S64x64x1x1, .i1⟩
  | 109 => ⟨S64x64x1x1, .i1⟩
  | 110 => ⟨S_, .i1⟩
  | 111 => ⟨S64x64x1, .i1⟩
  | 112 => ⟨S64x64x1, .f32⟩
  | 113 => ⟨S_, .f32⟩
  | 114 => ⟨S64x64x1, .f32⟩
  | 115 => ⟨S64x64x1, .f32⟩
  | 116 => ⟨S64x64x1x1, .i32⟩
  | 117 => ⟨S_, .i32⟩
  | 118 => ⟨S64x64x1x1, .i32⟩
  | 119 => ⟨S64x64x1x1, .i1⟩
  | 120 => ⟨S_, .i32⟩
  | 121 => ⟨S64x64x1x1, .i32⟩
  | 122 => ⟨S64x64x1x1, .i32⟩
  | 123 => ⟨S64x64x1x1, .i32⟩
  | 124 => ⟨S1, .i32⟩
  | 125 => ⟨S_, .i32⟩
  | 126 => ⟨S64x64x1x1, .i32⟩
  | 127 => ⟨S64x64x1x1, .i1⟩
  | _ => ⟨S64x64x3, .f32⟩

abbrev hbmTy0_6 (i : Nat) : BufTy := match i % 128 with
  | 0 => ⟨S1x1x1x1, .i32⟩
  | 1 => ⟨S64x64x1x1, .i32⟩
  | 2 => ⟨S64x64x1x1, .i1⟩
  | 3 => ⟨S64x64x1x1, .i1⟩
  | 4 => ⟨S_, .i1⟩
  | 5 => ⟨S64x64x1, .i1⟩
  | 6 => ⟨S64x64x1x6, .i1⟩
  | 7 => ⟨S64x64x1x6, .i1⟩
  | 8 => ⟨S_, .i1⟩
  | 9 => ⟨S64x64x1x6, .i1⟩
  | 10 => ⟨S64x64x1x6, .i1⟩
  | 11 => ⟨S64x64x6, .i1⟩
  | 12 => ⟨S64x64x6, .f32⟩
  | 13 => ⟨S64x64x6, .i1⟩
  | 14 => ⟨S64x64x6, .i1⟩
  | 15 => ⟨S_, .i1⟩
  | 16 => ⟨S64x64, .i1⟩
  | 17 => ⟨S64x64x1, .i1⟩
  | 18 => ⟨S_, .f32⟩
  | 19 => ⟨S_, .f32⟩
  | 20 => ⟨S64x64x1, .f32⟩
  | 21 => ⟨S64x64x1, .f32⟩
  | 22 => ⟨S64x64x1, .i32⟩
  | 23 => ⟨S1x1x6, .i32⟩
  | 24 => ⟨S64x64x6, .i32⟩
  | 25 => ⟨S64x64x6, .i32⟩
  | 26 => ⟨S64x64x6, .i1⟩
  | 27 => ⟨S64x64x6, .f32⟩
  | 28 => ⟨S64x64x6, .f32⟩
  | 29 => ⟨S_, .f32⟩
  | 30 => ⟨S64x64, .f32⟩
  | 31 => ⟨S64x64x1, .f32⟩
  | 32 => ⟨S64x64x6, .f32⟩
  | 33 => ⟨S64x64x6, .f32⟩
  | 34 => ⟨S64x64x6, .f32⟩
  | 35 => ⟨S_, .f32⟩
  | 36 => ⟨S64x64x6, .f32⟩
  | 37 => ⟨S64x64x6, .f32⟩
  | 38 => ⟨S_, .f32⟩
  | 39 => ⟨S64x64, .f32⟩
  | 40 => ⟨S_, .f32⟩
  | 41 => ⟨S64x64, .f32⟩
  | 42 => ⟨S64x64, .f32⟩
  | 43 => ⟨S64x64x1, .f32⟩
  | 44 => ⟨S64x64x6, .f32⟩
  | 45 => ⟨S64x64x6, .f32⟩
  | 46 => ⟨S64x64x6, .f32⟩
  | 47 => ⟨S_, .f32⟩
  | 48 => ⟨S64x64, .f32⟩
  | 49 => ⟨S64x64x1, .f32⟩
  | 50 => ⟨S64x64x6, .f32⟩
  | 51 => ⟨S64x64x6, .f32⟩
  | 52 => ⟨S64x64x6x16x3, .f32⟩
  | _ => ⟨S64x64x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S64x64x3, .f32⟩

abbrev bufTy : (tb : Table) → Fin (tcTables nBuf tb) → BufTy
  | .hbm, ⟨i, _⟩ => hbmTy i
  | _, _ => ⟨S64x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_values : Ref sig .tc := ⟨.hbm, 36, rfl⟩
abbrev main_indices : Ref sig .tc := ⟨.hbm, 37, rfl⟩
abbrev main_v25 : Ref sig .tc := ⟨.hbm, 38, rfl⟩
abbrev main_v26 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_c_2 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_c_3 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_c_4 : Ref sig .tc := ⟨.hbm, 59, rfl⟩
abbrev main_call1_v14 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_4 : Ref sig .tc := ⟨.hbm, 65, rfl⟩
abbrev main_v31 : Ref sig .tc := ⟨.hbm, 66, rfl⟩
abbrev main_v32 : Ref sig .tc := ⟨.hbm, 67, rfl⟩
abbrev main_cst_5 : Ref sig .tc := ⟨.hbm, 68, rfl⟩
abbrev main_v33 : Ref sig .tc := ⟨.hbm, 69, rfl⟩
abbrev main_v34 : Ref sig .tc := ⟨.hbm, 70, rfl⟩
abbrev main_cst_6 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_v38 : Ref sig .tc := ⟨.hbm, 79, rfl⟩
abbrev main_cst_7 : Ref sig .tc := ⟨.hbm, 80, rfl⟩
abbrev main_call3_v0 : Ref sig .tc := ⟨.hbm, 81, rfl⟩
abbrev main_call3_v1 : Ref sig .tc := ⟨.hbm, 82, rfl⟩
abbrev main_v39 : Ref sig .tc := ⟨.hbm, 83, rfl⟩
abbrev main_values_8 : Ref sig .tc := ⟨.hbm, 84, rfl⟩
abbrev main_indices_9 : Ref sig .tc := ⟨.hbm, 85, rfl⟩
abbrev main_v40 : Ref sig .tc := ⟨.hbm, 86, rfl⟩
abbrev main_v41 : Ref sig .tc := ⟨.hbm, 87, rfl⟩
abbrev main_call4_c : Ref sig .tc := ⟨.hbm, 88, rfl⟩
abbrev main_call4_v0 : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_c_1 : Ref sig .tc := ⟨.hbm, 95, rfl⟩
abbrev main_call4_c_2 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_c_3 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_c_4 : Ref sig .tc := ⟨.hbm, 107, rfl⟩
abbrev main_call4_v14 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_cst_10 : Ref sig .tc := ⟨.hbm, 113, rfl⟩
abbrev main_v46 : Ref sig .tc := ⟨.hbm, 114, rfl⟩
abbrev main_v47 : Ref sig .tc := ⟨.hbm, 115, rfl⟩
abbrev main_cst_11 : Ref sig .tc := ⟨.hbm, 116, rfl⟩
abbrev main_v48 : Ref sig .tc := ⟨.hbm, 117, rfl⟩
abbrev main_v49 : Ref sig .tc := ⟨.hbm, 118, rfl⟩
abbrev main_cst_12 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_v53 : Ref sig .tc := ⟨.hbm, 127, rfl⟩
abbrev main_cst_13 : Ref sig .tc := ⟨.hbm, 128, rfl⟩
abbrev main_call6_v0 : Ref sig .tc := ⟨.hbm, 129, rfl⟩
abbrev main_call6_v1 : Ref sig .tc := ⟨.hbm, 130, rfl⟩
abbrev main_v54 : Ref sig .tc := ⟨.hbm, 131, rfl⟩
abbrev main_values_14 : Ref sig .tc := ⟨.hbm, 132, rfl⟩
abbrev main_indices_15 : Ref sig .tc := ⟨.hbm, 133, rfl⟩
abbrev main_v55 : Ref sig .tc := ⟨.hbm, 134, rfl⟩
abbrev main_v56 : Ref sig .tc := ⟨.hbm, 135, rfl⟩
abbrev main_call7_c : Ref sig .tc := ⟨.hbm, 136, rfl⟩
abbrev main_call7_v0 : Ref sig .tc := ⟨.hbm, 137, rfl⟩
abbrev main_call7_v1 : Ref sig .tc := ⟨.hbm, 138, rfl⟩
abbrev main_call7_c_0 : Ref sig .tc := ⟨.hbm, 139, rfl⟩
abbrev main_call7_v2 : Ref sig .tc := ⟨.hbm, 140, rfl⟩
abbrev main_call7_v3 : Ref sig .tc := ⟨.hbm, 141, rfl⟩
abbrev main_call7_v4 : Ref sig .tc := ⟨.hbm, 142, rfl⟩
abbrev main_call7_c_1 : Ref sig .tc := ⟨.hbm, 143, rfl⟩
abbrev main_call7_c_2 : Ref sig .tc := ⟨.hbm, 144, rfl⟩
abbrev main_call7_v5 : Ref sig .tc := ⟨.hbm, 145, rfl⟩
abbrev main_call7_v6 : Ref sig .tc := ⟨.hbm, 146, rfl⟩
abbrev main_call7_v7 : Ref sig .tc := ⟨.hbm, 147, rfl⟩
abbrev main_call7_v8 : Ref sig .tc := ⟨.hbm, 148, rfl⟩
abbrev main_call7_v9 : Ref sig .tc := ⟨.hbm, 149, rfl⟩
abbrev main_call7_v10 : Ref sig .tc := ⟨.hbm, 150, rfl⟩
abbrev main_call7_c_3 : Ref sig .tc := ⟨.hbm, 151, rfl⟩
abbrev main_call7_v11 : Ref sig .tc := ⟨.hbm, 152, rfl⟩
abbrev main_call7_v12 : Ref sig .tc := ⟨.hbm, 153, rfl⟩
abbrev main_call7_v13 : Ref sig .tc := ⟨.hbm, 154, rfl⟩
abbrev main_call7_c_4 : Ref sig .tc := ⟨.hbm, 155, rfl⟩
abbrev main_call7_v14 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_cst_16 : Ref sig .tc := ⟨.hbm, 161, rfl⟩
abbrev main_v61 : Ref sig .tc := ⟨.hbm, 162, rfl⟩
abbrev main_v62 : Ref sig .tc := ⟨.hbm, 163, rfl⟩
abbrev main_cst_17 : Ref sig .tc := ⟨.hbm, 164, rfl⟩
abbrev main_v63 : Ref sig .tc := ⟨.hbm, 165, rfl⟩
abbrev main_v64 : Ref sig .tc := ⟨.hbm, 166, rfl⟩
abbrev main_cst_18 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_call8_v0 : Ref sig .tc := ⟨.hbm, 171, rfl⟩
abbrev main_call8_v1 : Ref sig .tc := ⟨.hbm, 172, rfl⟩
abbrev main_call8_v2 : Ref sig .tc := ⟨.hbm, 173, rfl⟩
abbrev main_call8_v3 : Ref sig .tc := ⟨.hbm, 174, rfl⟩
abbrev main_v68 : Ref sig .tc := ⟨.hbm, 175, rfl⟩
abbrev main_cst_19 : Ref sig .tc := ⟨.hbm, 176, rfl⟩
abbrev main_call9_v0 : Ref sig .tc := ⟨.hbm, 177, rfl⟩
abbrev main_call9_v1 : Ref sig .tc := ⟨.hbm, 178, rfl⟩
abbrev main_v69 : Ref sig .tc := ⟨.hbm, 179, rfl⟩
abbrev main_values_20 : Ref sig .tc := ⟨.hbm, 180, rfl⟩
abbrev main_indices_21 : Ref sig .tc := ⟨.hbm, 181, rfl⟩
abbrev main_v70 : Ref sig .tc := ⟨.hbm, 182, rfl⟩
abbrev main_v71 : Ref sig .tc := ⟨.hbm, 183, rfl⟩
abbrev main_call10_c : Ref sig .tc := ⟨.hbm, 184, rfl⟩
abbrev main_call10_v0 : Ref sig .tc := ⟨.hbm, 185, rfl⟩
abbrev main_call10_v1 : Ref sig .tc := ⟨.hbm, 186, rfl⟩
abbrev main_call10_c_0 : Ref sig .tc := ⟨.hbm, 187, rfl⟩
abbrev main_call10_v2 : Ref sig .tc := ⟨.hbm, 188, rfl⟩
abbrev main_call10_v3 : Ref sig .tc := ⟨.hbm, 189, rfl⟩
abbrev main_call10_v4 : Ref sig .tc := ⟨.hbm, 190, rfl⟩
abbrev main_call10_c_1 : Ref sig .tc := ⟨.hbm, 191, rfl⟩
abbrev main_call10_c_2 : Ref sig .tc := ⟨.hbm, 192, rfl⟩
abbrev main_call10_v5 : Ref sig .tc := ⟨.hbm, 193, rfl⟩
abbrev main_call10_v6 : Ref sig .tc := ⟨.hbm, 194, rfl⟩
abbrev main_call10_v7 : Ref sig .tc := ⟨.hbm, 195, rfl⟩
abbrev main_call10_v8 : Ref sig .tc := ⟨.hbm, 196, rfl⟩
abbrev main_call10_v9 : Ref sig .tc := ⟨.hbm, 197, rfl⟩
abbrev main_call10_v10 : Ref sig .tc := ⟨.hbm, 198, rfl⟩
abbrev main_call10_c_3 : Ref sig .tc := ⟨.hbm, 199, rfl⟩
abbrev main_call10_v11 : Ref sig .tc := ⟨.hbm, 200, rfl⟩
abbrev main_call10_v12 : Ref sig .tc := ⟨.hbm, 201, rfl⟩
abbrev main_call10_v13 : Ref sig .tc := ⟨.hbm, 202, rfl⟩
abbrev main_call10_c_4 : Ref sig .tc := ⟨.hbm, 203, rfl⟩
abbrev main_call10_v14 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_cst_22 : Ref sig .tc := ⟨.hbm, 209, rfl⟩
abbrev main_v76 : Ref sig .tc := ⟨.hbm, 210, rfl⟩
abbrev main_v77 : Ref sig .tc := ⟨.hbm, 211, rfl⟩
abbrev main_cst_23 : Ref sig .tc := ⟨.hbm, 212, rfl⟩
abbrev main_v78 : Ref sig .tc := ⟨.hbm, 213, rfl⟩
abbrev main_v79 : Ref sig .tc := ⟨.hbm, 214, rfl⟩
abbrev main_cst_24 : Ref sig .tc := ⟨.hbm, 215, rfl⟩
abbrev main_v80 : Ref sig .tc := ⟨.hbm, 216, rfl⟩
abbrev main_v81 : Ref sig .tc := ⟨.hbm, 217, rfl⟩
abbrev main_v82 : Ref sig .tc := ⟨.hbm, 218, rfl⟩
abbrev main_call11_v0 : Ref sig .tc := ⟨.hbm, 219, rfl⟩
abbrev main_call11_v1 : Ref sig .tc := ⟨.hbm, 220, rfl⟩
abbrev main_call11_v2 : Ref sig .tc := ⟨.hbm, 221, rfl⟩
abbrev main_call11_v3 : Ref sig .tc := ⟨.hbm, 222, rfl⟩
abbrev main_v83 : Ref sig .tc := ⟨.hbm, 223, rfl⟩
abbrev main_cst_25 : Ref sig .tc := ⟨.hbm, 224, rfl⟩
abbrev main_call12_v0 : Ref sig .tc := ⟨.hbm, 225, rfl⟩
abbrev main_call12_v1 : Ref sig .tc := ⟨.hbm, 226, rfl⟩
abbrev main_v84 : Ref sig .tc := ⟨.hbm, 227, rfl⟩
abbrev main_values_26 : Ref sig .tc := ⟨.hbm, 228, rfl⟩
abbrev main_indices_27 : Ref sig .tc := ⟨.hbm, 229, rfl⟩
abbrev main_v85 : Ref sig .tc := ⟨.hbm, 230, rfl⟩
abbrev main_v86 : Ref sig .tc := ⟨.hbm, 231, rfl⟩
abbrev main_call13_c : Ref sig .tc := ⟨.hbm, 232, rfl⟩
abbrev main_call13_v0 : Ref sig .tc := ⟨.hbm, 233, rfl⟩
abbrev main_call13_v1 : Ref sig .tc := ⟨.hbm, 234, rfl⟩
abbrev main_call13_c_0 : Ref sig .tc := ⟨.hbm, 235, rfl⟩
abbrev main_call13_v2 : Ref sig .tc := ⟨.hbm, 236, rfl⟩
abbrev main_call13_v3 : Ref sig .tc := ⟨.hbm, 237, rfl⟩
abbrev main_call13_v4 : Ref sig .tc := ⟨.hbm, 238, rfl⟩
abbrev main_call13_c_1 : Ref sig .tc := ⟨.hbm, 239, rfl⟩
abbrev main_call13_c_2 : Ref sig .tc := ⟨.hbm, 240, rfl⟩
abbrev main_call13_v5 : Ref sig .tc := ⟨.hbm, 241, rfl⟩
abbrev main_call13_v6 : Ref sig .tc := ⟨.hbm, 242, rfl⟩
abbrev main_call13_v7 : Ref sig .tc := ⟨.hbm, 243, rfl⟩
abbrev main_call13_v8 : Ref sig .tc := ⟨.hbm, 244, rfl⟩
abbrev main_call13_v9 : Ref sig .tc := ⟨.hbm, 245, rfl⟩
abbrev main_call13_v10 : Ref sig .tc := ⟨.hbm, 246, rfl⟩
abbrev main_call13_c_3 : Ref sig .tc := ⟨.hbm, 247, rfl⟩
abbrev main_call13_v11 : Ref sig .tc := ⟨.hbm, 248, rfl⟩
abbrev main_call13_v12 : Ref sig .tc := ⟨.hbm, 249, rfl⟩
abbrev main_call13_v13 : Ref sig .tc := ⟨.hbm, 250, rfl⟩
abbrev main_call13_c_4 : Ref sig .tc := ⟨.hbm, 251, rfl⟩
abbrev main_call13_v14 : Ref sig .tc := ⟨.hbm, 252, rfl⟩
abbrev main_v87 : Ref sig .tc := ⟨.hbm, 253, rfl⟩
abbrev main_v88 : Ref sig .tc := ⟨.hbm, 254, rfl⟩
abbrev main_v89 : Ref sig .tc := ⟨.hbm, 255, rfl⟩
abbrev main_v90 : Ref sig .tc := ⟨.hbm, 256, rfl⟩
abbrev main_cst_28 : Ref sig .tc := ⟨.hbm, 257, rfl⟩
abbrev main_v91 : Ref sig .tc := ⟨.hbm, 258, rfl⟩
abbrev main_v92 : Ref sig .tc := ⟨.hbm, 259, rfl⟩
abbrev main_cst_29 : Ref sig .tc := ⟨.hbm, 260, rfl⟩
abbrev main_v93 : Ref sig .tc := ⟨.hbm, 261, rfl⟩
abbrev main_v94 : Ref sig .tc := ⟨.hbm, 262, rfl⟩
abbrev main_cst_30 : Ref sig .tc := ⟨.hbm, 263, rfl⟩
abbrev main_v95 : Ref sig .tc := ⟨.hbm, 264, rfl⟩
abbrev main_v96 : Ref sig .tc := ⟨.hbm, 265, rfl⟩
abbrev main_v97 : Ref sig .tc := ⟨.hbm, 266, rfl⟩
abbrev main_call14_v0 : Ref sig .tc := ⟨.hbm, 267, rfl⟩
abbrev main_call14_v1 : Ref sig .tc := ⟨.hbm, 268, rfl⟩
abbrev main_call14_v2 : Ref sig .tc := ⟨.hbm, 269, rfl⟩
abbrev main_call14_v3 : Ref sig .tc := ⟨.hbm, 270, rfl⟩
abbrev main_v98 : Ref sig .tc := ⟨.hbm, 271, rfl⟩
abbrev main_cst_31 : Ref sig .tc := ⟨.hbm, 272, rfl⟩
abbrev main_call15_v0 : Ref sig .tc := ⟨.hbm, 273, rfl⟩
abbrev main_call15_v1 : Ref sig .tc := ⟨.hbm, 274, rfl⟩
abbrev main_v99 : Ref sig .tc := ⟨.hbm, 275, rfl⟩
abbrev main_values_32 : Ref sig .tc := ⟨.hbm, 276, rfl⟩
abbrev main_indices_33 : Ref sig .tc := ⟨.hbm, 277, rfl⟩
abbrev main_v100 : Ref sig .tc := ⟨.hbm, 278, rfl⟩
abbrev main_v101 : Ref sig .tc := ⟨.hbm, 279, rfl⟩
abbrev main_call16_c : Ref sig .tc := ⟨.hbm, 280, rfl⟩
abbrev main_call16_v0 : Ref sig .tc := ⟨.hbm, 281, rfl⟩
abbrev main_call16_v1 : Ref sig .tc := ⟨.hbm, 282, rfl⟩
abbrev main_call16_c_0 : Ref sig .tc := ⟨.hbm, 283, rfl⟩
abbrev main_call16_v2 : Ref sig .tc := ⟨.hbm, 284, rfl⟩
abbrev main_call16_v3 : Ref sig .tc := ⟨.hbm, 285, rfl⟩
abbrev main_call16_v4 : Ref sig .tc := ⟨.hbm, 286, rfl⟩
abbrev main_call16_c_1 : Ref sig .tc := ⟨.hbm, 287, rfl⟩
abbrev main_call16_c_2 : Ref sig .tc := ⟨.hbm, 288, rfl⟩
abbrev main_call16_v5 : Ref sig .tc := ⟨.hbm, 289, rfl⟩
abbrev main_call16_v6 : Ref sig .tc := ⟨.hbm, 290, rfl⟩
abbrev main_call16_v7 : Ref sig .tc := ⟨.hbm, 291, rfl⟩
abbrev main_call16_v8 : Ref sig .tc := ⟨.hbm, 292, rfl⟩
abbrev main_call16_v9 : Ref sig .tc := ⟨.hbm, 293, rfl⟩
abbrev main_call16_v10 : Ref sig .tc := ⟨.hbm, 294, rfl⟩
abbrev main_call16_c_3 : Ref sig .tc := ⟨.hbm, 295, rfl⟩
abbrev main_call16_v11 : Ref sig .tc := ⟨.hbm, 296, rfl⟩
abbrev main_call16_v12 : Ref sig .tc := ⟨.hbm, 297, rfl⟩
abbrev main_call16_v13 : Ref sig .tc := ⟨.hbm, 298, rfl⟩
abbrev main_call16_c_4 : Ref sig .tc := ⟨.hbm, 299, rfl⟩
abbrev main_call16_v14 : Ref sig .tc := ⟨.hbm, 300, rfl⟩
abbrev main_v102 : Ref sig .tc := ⟨.hbm, 301, rfl⟩
abbrev main_v103 : Ref sig .tc := ⟨.hbm, 302, rfl⟩
abbrev main_v104 : Ref sig .tc := ⟨.hbm, 303, rfl⟩
abbrev main_v105 : Ref sig .tc := ⟨.hbm, 304, rfl⟩
abbrev main_cst_34 : Ref sig .tc := ⟨.hbm, 305, rfl⟩
abbrev main_v106 : Ref sig .tc := ⟨.hbm, 306, rfl⟩
abbrev main_v107 : Ref sig .tc := ⟨.hbm, 307, rfl⟩
abbrev main_cst_35 : Ref sig .tc := ⟨.hbm, 308, rfl⟩
abbrev main_v108 : Ref sig .tc := ⟨.hbm, 309, rfl⟩
abbrev main_v109 : Ref sig .tc := ⟨.hbm, 310, rfl⟩
abbrev main_cst_36 : Ref sig .tc := ⟨.hbm, 311, rfl⟩
abbrev main_v110 : Ref sig .tc := ⟨.hbm, 312, rfl⟩
abbrev main_v111 : Ref sig .tc := ⟨.hbm, 313, rfl⟩
abbrev main_v112 : Ref sig .tc := ⟨.hbm, 314, rfl⟩
abbrev main_call17_v0 : Ref sig .tc := ⟨.hbm, 315, rfl⟩
abbrev main_call17_v1 : Ref sig .tc := ⟨.hbm, 316, rfl⟩
abbrev main_call17_v2 : Ref sig .tc := ⟨.hbm, 317, rfl⟩
abbrev main_call17_v3 : Ref sig .tc := ⟨.hbm, 318, rfl⟩
abbrev main_v113 : Ref sig .tc := ⟨.hbm, 319, rfl⟩
abbrev main_cst_37 : Ref sig .tc := ⟨.hbm, 320, rfl⟩
abbrev main_call18_v0 : Ref sig .tc := ⟨.hbm, 321, rfl⟩
abbrev main_call18_v1 : Ref sig .tc := ⟨.hbm, 322, rfl⟩
abbrev main_v114 : Ref sig .tc := ⟨.hbm, 323, rfl⟩
abbrev main_v115 : Ref sig .tc := ⟨.hbm, 324, rfl⟩
abbrev main_v116 : Ref sig .tc := ⟨.hbm, 325, rfl⟩
abbrev main_v117 : Ref sig .tc := ⟨.hbm, 326, rfl⟩
abbrev main_v118 : Ref sig .tc := ⟨.hbm, 327, rfl⟩
abbrev main_v119 : Ref sig .tc := ⟨.hbm, 328, rfl⟩
abbrev main_v120 : Ref sig .tc := ⟨.hbm, 329, rfl⟩
abbrev main_v121 : Ref sig .tc := ⟨.hbm, 330, rfl⟩
abbrev main_v122 : Ref sig .tc := ⟨.hbm, 331, rfl⟩
abbrev main_call19_c : Ref sig .tc := ⟨.hbm, 332, rfl⟩
abbrev main_call19_v0 : Ref sig .tc := ⟨.hbm, 333, rfl⟩
abbrev main_call19_v1 : Ref sig .tc := ⟨.hbm, 334, rfl⟩
abbrev main_call19_c_0 : Ref sig .tc := ⟨.hbm, 335, rfl⟩
abbrev main_call19_v2 : Ref sig .tc := ⟨.hbm, 336, rfl⟩
abbrev main_call19_v3 : Ref sig .tc := ⟨.hbm, 337, rfl⟩
abbrev main_call19_v4 : Ref sig .tc := ⟨.hbm, 338, rfl⟩
abbrev main_call19_v5 : Ref sig .tc := ⟨.hbm, 339, rfl⟩
abbrev main_call19_c_1 : Ref sig .tc := ⟨.hbm, 340, rfl⟩
abbrev main_call19_c_2 : Ref sig .tc := ⟨.hbm, 341, rfl⟩
abbrev main_call19_v6 : Ref sig .tc := ⟨.hbm, 342, rfl⟩
abbrev main_call19_v7 : Ref sig .tc := ⟨.hbm, 343, rfl⟩
abbrev main_call19_v8 : Ref sig .tc := ⟨.hbm, 344, rfl⟩
abbrev main_call19_v9 : Ref sig .tc := ⟨.hbm, 345, rfl⟩
abbrev main_call19_v10 : Ref sig .tc := ⟨.hbm, 346, rfl⟩
abbrev main_call19_v11 : Ref sig .tc := ⟨.hbm, 347, rfl⟩
abbrev main_call19_c_3 : Ref sig .tc := ⟨.hbm, 348, rfl⟩
abbrev main_call19_v12 : Ref sig .tc := ⟨.hbm, 349, rfl⟩
abbrev main_call19_v13 : Ref sig .tc := ⟨.hbm, 350, rfl⟩
abbrev main_call19_v14 : Ref sig .tc := ⟨.hbm, 351, rfl⟩
abbrev main_call19_cst : Ref sig .tc := ⟨.hbm, 352, rfl⟩
abbrev main_call19_v15 : Ref sig .tc := ⟨.hbm, 353, rfl⟩
abbrev main_v123 : Ref sig .tc := ⟨.hbm, 354, rfl⟩
abbrev main_call20_c : Ref sig .tc := ⟨.hbm, 355, rfl⟩
abbrev main_call20_v0 : Ref sig .tc := ⟨.hbm, 356, rfl⟩
abbrev main_call20_v1 : Ref sig .tc := ⟨.hbm, 357, rfl⟩
abbrev main_call20_c_0 : Ref sig .tc := ⟨.hbm, 358, rfl⟩
abbrev main_call20_v2 : Ref sig .tc := ⟨.hbm, 359, rfl⟩
abbrev main_call20_v3 : Ref sig .tc := ⟨.hbm, 360, rfl⟩
abbrev main_call20_v4 : Ref sig .tc := ⟨.hbm, 361, rfl⟩
abbrev main_call20_v5 : Ref sig .tc := ⟨.hbm, 362, rfl⟩
abbrev main_call20_c_1 : Ref sig .tc := ⟨.hbm, 363, rfl⟩
abbrev main_call20_c_2 : Ref sig .tc := ⟨.hbm, 364, rfl⟩
abbrev main_call20_v6 : Ref sig .tc := ⟨.hbm, 365, rfl⟩
abbrev main_call20_v7 : Ref sig .tc := ⟨.hbm, 366, rfl⟩
abbrev main_call20_v8 : Ref sig .tc := ⟨.hbm, 367, rfl⟩
abbrev main_call20_v9 : Ref sig .tc := ⟨.hbm, 368, rfl⟩
abbrev main_call20_v10 : Ref sig .tc := ⟨.hbm, 369, rfl⟩
abbrev main_call20_v11 : Ref sig .tc := ⟨.hbm, 370, rfl⟩
abbrev main_call20_c_3 : Ref sig .tc := ⟨.hbm, 371, rfl⟩
abbrev main_call20_v12 : Ref sig .tc := ⟨.hbm, 372, rfl⟩
abbrev main_call20_v13 : Ref sig .tc := ⟨.hbm, 373, rfl⟩
abbrev main_call20_cst : Ref sig .tc := ⟨.hbm, 374, rfl⟩
abbrev main_call20_v14 : Ref sig .tc := ⟨.hbm, 375, rfl⟩
abbrev main_v124 : Ref sig .tc := ⟨.hbm, 376, rfl⟩
abbrev main_cst_38 : Ref sig .tc := ⟨.hbm, 377, rfl⟩
abbrev main_v125 : Ref sig .tc := ⟨.hbm, 378, rfl⟩
abbrev main_v126 : Ref sig .tc := ⟨.hbm, 379, rfl⟩
abbrev main_v127 : Ref sig .tc := ⟨.hbm, 380, rfl⟩
abbrev main_v128 : Ref sig .tc := ⟨.hbm, 381, rfl⟩
abbrev main_v129 : Ref sig .tc := ⟨.hbm, 382, rfl⟩
abbrev main_v130 : Ref sig .tc := ⟨.hbm, 383, rfl⟩
abbrev main_v131 : Ref sig .tc := ⟨.hbm, 384, rfl⟩
abbrev main_v132 : Ref sig .tc := ⟨.hbm, 385, rfl⟩
abbrev main_v133 : Ref sig .tc := ⟨.hbm, 386, rfl⟩
abbrev main_v134 : Ref sig .tc := ⟨.hbm, 387, rfl⟩
abbrev main_v135 : Ref sig .tc := ⟨.hbm, 388, rfl⟩
abbrev main_v136 : Ref sig .tc := ⟨.hbm, 389, rfl⟩
abbrev main_call21_v0 : Ref sig .tc := ⟨.hbm, 390, rfl⟩
abbrev main_call21_cst : Ref sig .tc := ⟨.hbm, 391, rfl⟩
abbrev main_call21_v1 : Ref sig .tc := ⟨.hbm, 392, rfl⟩
abbrev main_v137 : Ref sig .tc := ⟨.hbm, 393, rfl⟩
abbrev main_v138 : Ref sig .tc := ⟨.hbm, 394, rfl⟩
abbrev main_v139 : Ref sig .tc := ⟨.hbm, 395, rfl⟩
abbrev main_v140 : Ref sig .tc := ⟨.hbm, 396, rfl⟩
abbrev main_v141 : Ref sig .tc := ⟨.hbm, 397, rfl⟩
abbrev main_call22_v0 : Ref sig .tc := ⟨.hbm, 398, rfl⟩
abbrev main_call22_v1_0 : Ref sig .tc := ⟨.hbm, 399, rfl⟩
abbrev main_v142 : Ref sig .tc := ⟨.hbm, 400, rfl⟩
abbrev main_v143 : Ref sig .tc := ⟨.hbm, 401, rfl⟩
abbrev main_v144 : Ref sig .tc := ⟨.hbm, 402, rfl⟩
abbrev main_v145 : Ref sig .tc := ⟨.hbm, 403, rfl⟩
abbrev main_call23_c : Ref sig .tc := ⟨.hbm, 404, rfl⟩
abbrev main_call23_v0 : Ref sig .tc := ⟨.hbm, 405, rfl⟩
abbrev main_call23_v1 : Ref sig .tc := ⟨.hbm, 406, rfl⟩
abbrev main_call23_c_0 : Ref sig .tc := ⟨.hbm, 407, rfl⟩
abbrev main_call23_v2 : Ref sig .tc := ⟨.hbm, 408, rfl⟩
abbrev main_call23_v3 : Ref sig .tc := ⟨.hbm, 409, rfl⟩
abbrev main_call23_v4 : Ref sig .tc := ⟨.hbm, 410, rfl⟩
abbrev main_call23_v5 : Ref sig .tc := ⟨.hbm, 411, rfl⟩
abbrev main_call23_c_1 : Ref sig .tc := ⟨.hbm, 412, rfl⟩
abbrev main_call23_c_2 : Ref sig .tc := ⟨.hbm, 413, rfl⟩
abbrev main_call23_v6 : Ref sig .tc := ⟨.hbm, 414, rfl⟩
abbrev main_call23_v7 : Ref sig .tc := ⟨.hbm, 415, rfl⟩
abbrev main_call23_v8 : Ref sig .tc := ⟨.hbm, 416, rfl⟩
abbrev main_call23_v9 : Ref sig .tc := ⟨.hbm, 417, rfl⟩
abbrev main_call23_v10 : Ref sig .tc := ⟨.hbm, 418, rfl⟩
abbrev main_call23_v11 : Ref sig .tc := ⟨.hbm, 419, rfl⟩
abbrev main_call23_c_3 : Ref sig .tc := ⟨.hbm, 420, rfl⟩
abbrev main_call23_v12 : Ref sig .tc := ⟨.hbm, 421, rfl⟩
abbrev main_call23_v13 : Ref sig .tc := ⟨.hbm, 422, rfl⟩
abbrev main_call23_cst : Ref sig .tc := ⟨.hbm, 423, rfl⟩
abbrev main_call23_v14 : Ref sig .tc := ⟨.hbm, 424, rfl⟩
abbrev main_v146 : Ref sig .tc := ⟨.hbm, 425, rfl⟩
abbrev main_v147 : Ref sig .tc := ⟨.hbm, 426, rfl⟩
abbrev main_call24_c : Ref sig .tc := ⟨.hbm, 427, rfl⟩
abbrev main_call24_v0 : Ref sig .tc := ⟨.hbm, 428, rfl⟩
abbrev main_call24_v1 : Ref sig .tc := ⟨.hbm, 429, rfl⟩
abbrev main_call24_c_0 : Ref sig .tc := ⟨.hbm, 430, rfl⟩
abbrev main_call24_v2 : Ref sig .tc := ⟨.hbm, 431, rfl⟩
abbrev main_call24_v3 : Ref sig .tc := ⟨.hbm, 432, rfl⟩
abbrev main_call24_v4 : Ref sig .tc := ⟨.hbm, 433, rfl⟩
abbrev main_call24_c_1 : Ref sig .tc := ⟨.hbm, 434, rfl⟩
abbrev main_call24_c_2 : Ref sig .tc := ⟨.hbm, 435, rfl⟩
abbrev main_call24_v5 : Ref sig .tc := ⟨.hbm, 436, rfl⟩
abbrev main_call24_v6 : Ref sig .tc := ⟨.hbm, 437, rfl⟩
abbrev main_call24_v7 : Ref sig .tc := ⟨.hbm, 438, rfl⟩
abbrev main_call24_v8 : Ref sig .tc := ⟨.hbm, 439, rfl⟩
abbrev main_call24_v9 : Ref sig .tc := ⟨.hbm, 440, rfl⟩
abbrev main_call24_v10 : Ref sig .tc := ⟨.hbm, 441, rfl⟩
abbrev main_call24_c_3 : Ref sig .tc := ⟨.hbm, 442, rfl⟩
abbrev main_call24_v11 : Ref sig .tc := ⟨.hbm, 443, rfl⟩
abbrev main_call24_v12 : Ref sig .tc := ⟨.hbm, 444, rfl⟩
abbrev main_call24_v13 : Ref sig .tc := ⟨.hbm, 445, rfl⟩
abbrev main_call24_c_4 : Ref sig .tc := ⟨.hbm, 446, rfl⟩
abbrev main_call24_v14 : Ref sig .tc := ⟨.hbm, 447, rfl⟩
abbrev main_v148 : Ref sig .tc := ⟨.hbm, 448, rfl⟩
abbrev main_v149 : Ref sig .tc := ⟨.hbm, 449, rfl⟩
abbrev main_v150 : Ref sig .tc := ⟨.hbm, 450, rfl⟩
abbrev main_v151 : Ref sig .tc := ⟨.hbm, 451, rfl⟩
abbrev main_v152 : Ref sig .tc := ⟨.hbm, 452, rfl⟩
abbrev main_c : Ref sig .tc := ⟨.hbm, 453, rfl⟩
abbrev main_v153 : Ref sig .tc := ⟨.hbm, 454, rfl⟩
abbrev main_v154 : Ref sig .tc := ⟨.hbm, 455, rfl⟩
abbrev main_cst_39 : Ref sig .tc := ⟨.hbm, 456, rfl⟩
abbrev main_call25_v0 : Ref sig .tc := ⟨.hbm, 457, rfl⟩
abbrev main_call25_v1 : Ref sig .tc := ⟨.hbm, 458, rfl⟩
abbrev main_v155 : Ref sig .tc := ⟨.hbm, 459, rfl⟩
abbrev main_call26_v0 : Ref sig .tc := ⟨.hbm, 460, rfl⟩
abbrev main_call26_v1 : Ref sig .tc := ⟨.hbm, 461, rfl⟩
abbrev main_call26_v2 : Ref sig .tc := ⟨.hbm, 462, rfl⟩
abbrev main_call26_v3 : Ref sig .tc := ⟨.hbm, 463, rfl⟩
abbrev main_v156 : Ref sig .tc := ⟨.hbm, 464, rfl⟩
abbrev main_call27_v0 : Ref sig .tc := ⟨.hbm, 465, rfl⟩
abbrev main_v157 : Ref sig .tc := ⟨.hbm, 466, rfl⟩
abbrev main_v158 : Ref sig .tc := ⟨.hbm, 467, rfl⟩
abbrev main_v159 : Ref sig .tc := ⟨.hbm, 468, rfl⟩
abbrev main_v160 : Ref sig .tc := ⟨.hbm, 469, rfl⟩
abbrev main_call28_c : Ref sig .tc := ⟨.hbm, 470, rfl⟩
abbrev main_call28_v0 : Ref sig .tc := ⟨.hbm, 471, rfl⟩
abbrev main_call28_v1 : Ref sig .tc := ⟨.hbm, 472, rfl⟩
abbrev main_call28_c_0 : Ref sig .tc := ⟨.hbm, 473, rfl⟩
abbrev main_call28_v2 : Ref sig .tc := ⟨.hbm, 474, rfl⟩
abbrev main_call28_v3 : Ref sig .tc := ⟨.hbm, 475, rfl⟩
abbrev main_call28_v4 : Ref sig .tc := ⟨.hbm, 476, rfl⟩
abbrev main_call28_v5 : Ref sig .tc := ⟨.hbm, 477, rfl⟩
abbrev main_call28_c_1 : Ref sig .tc := ⟨.hbm, 478, rfl⟩
abbrev main_call28_c_2 : Ref sig .tc := ⟨.hbm, 479, rfl⟩
abbrev main_call28_v6 : Ref sig .tc := ⟨.hbm, 480, rfl⟩
abbrev main_call28_v7 : Ref sig .tc := ⟨.hbm, 481, rfl⟩
abbrev main_call28_v8 : Ref sig .tc := ⟨.hbm, 482, rfl⟩
abbrev main_call28_v9 : Ref sig .tc := ⟨.hbm, 483, rfl⟩
abbrev main_call28_v10 : Ref sig .tc := ⟨.hbm, 484, rfl⟩
abbrev main_call28_v11 : Ref sig .tc := ⟨.hbm, 485, rfl⟩
abbrev main_call28_c_3 : Ref sig .tc := ⟨.hbm, 486, rfl⟩
abbrev main_call28_v12 : Ref sig .tc := ⟨.hbm, 487, rfl⟩
abbrev main_call28_v13 : Ref sig .tc := ⟨.hbm, 488, rfl⟩
abbrev main_call28_cst : Ref sig .tc := ⟨.hbm, 489, rfl⟩
abbrev main_call28_v14 : Ref sig .tc := ⟨.hbm, 490, rfl⟩
abbrev main_v161 : Ref sig .tc := ⟨.hbm, 491, rfl⟩
abbrev main_v162 : Ref sig .tc := ⟨.hbm, 492, rfl⟩
abbrev main_call29_c : Ref sig .tc := ⟨.hbm, 493, rfl⟩
abbrev main_call29_v0 : Ref sig .tc := ⟨.hbm, 494, rfl⟩
abbrev main_call29_v1 : Ref sig .tc := ⟨.hbm, 495, rfl⟩
abbrev main_call29_c_0 : Ref sig .tc := ⟨.hbm, 496, rfl⟩
abbrev main_call29_v2 : Ref sig .tc := ⟨.hbm, 497, rfl⟩
abbrev main_call29_v3 : Ref sig .tc := ⟨.hbm, 498, rfl⟩
abbrev main_call29_v4 : Ref sig .tc := ⟨.hbm, 499, rfl⟩
abbrev main_call29_c_1 : Ref sig .tc := ⟨.hbm, 500, rfl⟩
abbrev main_call29_c_2 : Ref sig .tc := ⟨.hbm, 501, rfl⟩
abbrev main_call29_v5 : Ref sig .tc := ⟨.hbm, 502, rfl⟩
abbrev main_call29_v6 : Ref sig .tc := ⟨.hbm, 503, rfl⟩
abbrev main_call29_v7 : Ref sig .tc := ⟨.hbm, 504, rfl⟩
abbrev main_call29_v8 : Ref sig .tc := ⟨.hbm, 505, rfl⟩
abbrev main_call29_v9 : Ref sig .tc := ⟨.hbm, 506, rfl⟩
abbrev main_call29_v10 : Ref sig .tc := ⟨.hbm, 507, rfl⟩
abbrev main_call29_c_3 : Ref sig .tc := ⟨.hbm, 508, rfl⟩
abbrev main_call29_v11 : Ref sig .tc := ⟨.hbm, 509, rfl⟩
abbrev main_call29_v12 : Ref sig .tc := ⟨.hbm, 510, rfl⟩
abbrev main_call29_v13 : Ref sig .tc := ⟨.hbm, 511, rfl⟩
abbrev main_call29_c_4 : Ref sig .tc := ⟨.hbm, 512, rfl⟩
abbrev main_call29_v14 : Ref sig .tc := ⟨.hbm, 513, rfl⟩
abbrev main_v163 : Ref sig .tc := ⟨.hbm, 514, rfl⟩
abbrev main_v164 : Ref sig .tc := ⟨.hbm, 515, rfl⟩
abbrev main_v165 : Ref sig .tc := ⟨.hbm, 516, rfl⟩
abbrev main_v166 : Ref sig .tc := ⟨.hbm, 517, rfl⟩
abbrev main_v167 : Ref sig .tc := ⟨.hbm, 518, rfl⟩
abbrev main_c_40 : Ref sig .tc := ⟨.hbm, 519, rfl⟩
abbrev main_v168 : Ref sig .tc := ⟨.hbm, 520, rfl⟩
abbrev main_v169 : Ref sig .tc := ⟨.hbm, 521, rfl⟩
abbrev main_cst_41 : Ref sig .tc := ⟨.hbm, 522, rfl⟩
abbrev main_call30_v0 : Ref sig .tc := ⟨.hbm, 523, rfl⟩
abbrev main_call30_v1 : Ref sig .tc := ⟨.hbm, 524, rfl⟩
abbrev main_v170 : Ref sig .tc := ⟨.hbm, 525, rfl⟩
abbrev main_call31_v0 : Ref sig .tc := ⟨.hbm, 526, rfl⟩
abbrev main_call31_v1 : Ref sig .tc := ⟨.hbm, 527, rfl⟩
abbrev main_call31_v2 : Ref sig .tc := ⟨.hbm, 528, rfl⟩
abbrev main_call31_v3 : Ref sig .tc := ⟨.hbm, 529, rfl⟩
abbrev main_v171 : Ref sig .tc := ⟨.hbm, 530, rfl⟩
abbrev main_call32_v0 : Ref sig .tc := ⟨.hbm, 531, rfl⟩
abbrev main_v172 : Ref sig .tc := ⟨.hbm, 532, rfl⟩
abbrev main_v173 : Ref sig .tc := ⟨.hbm, 533, rfl⟩
abbrev main_v174 : Ref sig .tc := ⟨.hbm, 534, rfl⟩
abbrev main_v175 : Ref sig .tc := ⟨.hbm, 535, rfl⟩
abbrev main_call33_c : Ref sig .tc := ⟨.hbm, 536, rfl⟩
abbrev main_call33_v0 : Ref sig .tc := ⟨.hbm, 537, rfl⟩
abbrev main_call33_v1 : Ref sig .tc := ⟨.hbm, 538, rfl⟩
abbrev main_call33_c_0 : Ref sig .tc := ⟨.hbm, 539, rfl⟩
abbrev main_call33_v2 : Ref sig .tc := ⟨.hbm, 540, rfl⟩
abbrev main_call33_v3 : Ref sig .tc := ⟨.hbm, 541, rfl⟩
abbrev main_call33_v4 : Ref sig .tc := ⟨.hbm, 542, rfl⟩
abbrev main_call33_v5 : Ref sig .tc := ⟨.hbm, 543, rfl⟩
abbrev main_call33_c_1 : Ref sig .tc := ⟨.hbm, 544, rfl⟩
abbrev main_call33_c_2 : Ref sig .tc := ⟨.hbm, 545, rfl⟩
abbrev main_call33_v6 : Ref sig .tc := ⟨.hbm, 546, rfl⟩
abbrev main_call33_v7 : Ref sig .tc := ⟨.hbm, 547, rfl⟩
abbrev main_call33_v8 : Ref sig .tc := ⟨.hbm, 548, rfl⟩
abbrev main_call33_v9 : Ref sig .tc := ⟨.hbm, 549, rfl⟩
abbrev main_call33_v10 : Ref sig .tc := ⟨.hbm, 550, rfl⟩
abbrev main_call33_v11 : Ref sig .tc := ⟨.hbm, 551, rfl⟩
abbrev main_call33_c_3 : Ref sig .tc := ⟨.hbm, 552, rfl⟩
abbrev main_call33_v12 : Ref sig .tc := ⟨.hbm, 553, rfl⟩
abbrev main_call33_v13 : Ref sig .tc := ⟨.hbm, 554, rfl⟩
abbrev main_call33_cst : Ref sig .tc := ⟨.hbm, 555, rfl⟩
abbrev main_call33_v14 : Ref sig .tc := ⟨.hbm, 556, rfl⟩
abbrev main_v176 : Ref sig .tc := ⟨.hbm, 557, rfl⟩
abbrev main_v177 : Ref sig .tc := ⟨.hbm, 558, rfl⟩
abbrev main_call34_c : Ref sig .tc := ⟨.hbm, 559, rfl⟩
abbrev main_call34_v0 : Ref sig .tc := ⟨.hbm, 560, rfl⟩
abbrev main_call34_v1 : Ref sig .tc := ⟨.hbm, 561, rfl⟩
abbrev main_call34_c_0 : Ref sig .tc := ⟨.hbm, 562, rfl⟩
abbrev main_call34_v2 : Ref sig .tc := ⟨.hbm, 563, rfl⟩
abbrev main_call34_v3 : Ref sig .tc := ⟨.hbm, 564, rfl⟩
abbrev main_call34_v4 : Ref sig .tc := ⟨.hbm, 565, rfl⟩
abbrev main_call34_c_1 : Ref sig .tc := ⟨.hbm, 566, rfl⟩
abbrev main_call34_c_2 : Ref sig .tc := ⟨.hbm, 567, rfl⟩
abbrev main_call34_v5 : Ref sig .tc := ⟨.hbm, 568, rfl⟩
abbrev main_call34_v6 : Ref sig .tc := ⟨.hbm, 569, rfl⟩
abbrev main_call34_v7 : Ref sig .tc := ⟨.hbm, 570, rfl⟩
abbrev main_call34_v8 : Ref sig .tc := ⟨.hbm, 571, rfl⟩
abbrev main_call34_v9 : Ref sig .tc := ⟨.hbm, 572, rfl⟩
abbrev main_call34_v10 : Ref sig .tc := ⟨.hbm, 573, rfl⟩
abbrev main_call34_c_3 : Ref sig .tc := ⟨.hbm, 574, rfl⟩
abbrev main_call34_v11 : Ref sig .tc := ⟨.hbm, 575, rfl⟩
abbrev main_call34_v12 : Ref sig .tc := ⟨.hbm, 576, rfl⟩
abbrev main_call34_v13 : Ref sig .tc := ⟨.hbm, 577, rfl⟩
abbrev main_call34_c_4 : Ref sig .tc := ⟨.hbm, 578, rfl⟩
abbrev main_call34_v14 : Ref sig .tc := ⟨.hbm, 579, rfl⟩
abbrev main_v178 : Ref sig .tc := ⟨.hbm, 580, rfl⟩
abbrev main_v179 : Ref sig .tc := ⟨.hbm, 581, rfl⟩
abbrev main_v180 : Ref sig .tc := ⟨.hbm, 582, rfl⟩
abbrev main_v181 : Ref sig .tc := ⟨.hbm, 583, rfl⟩
abbrev main_v182 : Ref sig .tc := ⟨.hbm, 584, rfl⟩
abbrev main_c_42 : Ref sig .tc := ⟨.hbm, 585, rfl⟩
abbrev main_v183 : Ref sig .tc := ⟨.hbm, 586, rfl⟩
abbrev main_v184 : Ref sig .tc := ⟨.hbm, 587, rfl⟩
abbrev main_cst_43 : Ref sig .tc := ⟨.hbm, 588, rfl⟩
abbrev main_call35_v0 : Ref sig .tc := ⟨.hbm, 589, rfl⟩
abbrev main_call35_v1 : Ref sig .tc := ⟨.hbm, 590, rfl⟩
abbrev main_v185 : Ref sig .tc := ⟨.hbm, 591, rfl⟩
abbrev main_call36_v0 : Ref sig .tc := ⟨.hbm, 592, rfl⟩
abbrev main_call36_v1 : Ref sig .tc := ⟨.hbm, 593, rfl⟩
abbrev main_call36_v2 : Ref sig .tc := ⟨.hbm, 594, rfl⟩
abbrev main_call36_v3 : Ref sig .tc := ⟨.hbm, 595, rfl⟩
abbrev main_v186 : Ref sig .tc := ⟨.hbm, 596, rfl⟩
abbrev main_call37_v0 : Ref sig .tc := ⟨.hbm, 597, rfl⟩
abbrev main_v187 : Ref sig .tc := ⟨.hbm, 598, rfl⟩
abbrev main_v188 : Ref sig .tc := ⟨.hbm, 599, rfl⟩
abbrev main_v189 : Ref sig .tc := ⟨.hbm, 600, rfl⟩
abbrev main_v190 : Ref sig .tc := ⟨.hbm, 601, rfl⟩
abbrev main_call38_c : Ref sig .tc := ⟨.hbm, 602, rfl⟩
abbrev main_call38_v0 : Ref sig .tc := ⟨.hbm, 603, rfl⟩
abbrev main_call38_v1 : Ref sig .tc := ⟨.hbm, 604, rfl⟩
abbrev main_call38_c_0 : Ref sig .tc := ⟨.hbm, 605, rfl⟩
abbrev main_call38_v2 : Ref sig .tc := ⟨.hbm, 606, rfl⟩
abbrev main_call38_v3 : Ref sig .tc := ⟨.hbm, 607, rfl⟩
abbrev main_call38_v4 : Ref sig .tc := ⟨.hbm, 608, rfl⟩
abbrev main_call38_v5 : Ref sig .tc := ⟨.hbm, 609, rfl⟩
abbrev main_call38_c_1 : Ref sig .tc := ⟨.hbm, 610, rfl⟩
abbrev main_call38_c_2 : Ref sig .tc := ⟨.hbm, 611, rfl⟩
abbrev main_call38_v6 : Ref sig .tc := ⟨.hbm, 612, rfl⟩
abbrev main_call38_v7 : Ref sig .tc := ⟨.hbm, 613, rfl⟩
abbrev main_call38_v8 : Ref sig .tc := ⟨.hbm, 614, rfl⟩
abbrev main_call38_v9 : Ref sig .tc := ⟨.hbm, 615, rfl⟩
abbrev main_call38_v10 : Ref sig .tc := ⟨.hbm, 616, rfl⟩
abbrev main_call38_v11 : Ref sig .tc := ⟨.hbm, 617, rfl⟩
abbrev main_call38_c_3 : Ref sig .tc := ⟨.hbm, 618, rfl⟩
abbrev main_call38_v12 : Ref sig .tc := ⟨.hbm, 619, rfl⟩
abbrev main_call38_v13 : Ref sig .tc := ⟨.hbm, 620, rfl⟩
abbrev main_call38_cst : Ref sig .tc := ⟨.hbm, 621, rfl⟩
abbrev main_call38_v14 : Ref sig .tc := ⟨.hbm, 622, rfl⟩
abbrev main_v191 : Ref sig .tc := ⟨.hbm, 623, rfl⟩
abbrev main_v192 : Ref sig .tc := ⟨.hbm, 624, rfl⟩
abbrev main_call39_c : Ref sig .tc := ⟨.hbm, 625, rfl⟩
abbrev main_call39_v0 : Ref sig .tc := ⟨.hbm, 626, rfl⟩
abbrev main_call39_v1 : Ref sig .tc := ⟨.hbm, 627, rfl⟩
abbrev main_call39_c_0 : Ref sig .tc := ⟨.hbm, 628, rfl⟩
abbrev main_call39_v2 : Ref sig .tc := ⟨.hbm, 629, rfl⟩
abbrev main_call39_v3 : Ref sig .tc := ⟨.hbm, 630, rfl⟩
abbrev main_call39_v4 : Ref sig .tc := ⟨.hbm, 631, rfl⟩
abbrev main_call39_c_1 : Ref sig .tc := ⟨.hbm, 632, rfl⟩
abbrev main_call39_c_2 : Ref sig .tc := ⟨.hbm, 633, rfl⟩
abbrev main_call39_v5 : Ref sig .tc := ⟨.hbm, 634, rfl⟩
abbrev main_call39_v6 : Ref sig .tc := ⟨.hbm, 635, rfl⟩
abbrev main_call39_v7 : Ref sig .tc := ⟨.hbm, 636, rfl⟩
abbrev main_call39_v8 : Ref sig .tc := ⟨.hbm, 637, rfl⟩
abbrev main_call39_v9 : Ref sig .tc := ⟨.hbm, 638, rfl⟩
abbrev main_call39_v10 : Ref sig .tc := ⟨.hbm, 639, rfl⟩
abbrev main_call39_c_3 : Ref sig .tc := ⟨.hbm, 640, rfl⟩
abbrev main_call39_v11 : Ref sig .tc := ⟨.hbm, 641, rfl⟩
abbrev main_call39_v12 : Ref sig .tc := ⟨.hbm, 642, rfl⟩
abbrev main_call39_v13 : Ref sig .tc := ⟨.hbm, 643, rfl⟩
abbrev main_call39_c_4 : Ref sig .tc := ⟨.hbm, 644, rfl⟩
abbrev main_call39_v14 : Ref sig .tc := ⟨.hbm, 645, rfl⟩
abbrev main_v193 : Ref sig .tc := ⟨.hbm, 646, rfl⟩
abbrev main_v194 : Ref sig .tc := ⟨.hbm, 647, rfl⟩
abbrev main_v195 : Ref sig .tc := ⟨.hbm, 648, rfl⟩
abbrev main_v196 : Ref sig .tc := ⟨.hbm, 649, rfl⟩
abbrev main_v197 : Ref sig .tc := ⟨.hbm, 650, rfl⟩
abbrev main_c_44 : Ref sig .tc := ⟨.hbm, 651, rfl⟩
abbrev main_v198 : Ref sig .tc := ⟨.hbm, 652, rfl⟩
abbrev main_v199 : Ref sig .tc := ⟨.hbm, 653, rfl⟩
abbrev main_cst_45 : Ref sig .tc := ⟨.hbm, 654, rfl⟩
abbrev main_call40_v0 : Ref sig .tc := ⟨.hbm, 655, rfl⟩
abbrev main_call40_v1 : Ref sig .tc := ⟨.hbm, 656, rfl⟩
abbrev main_v200 : Ref sig .tc := ⟨.hbm, 657, rfl⟩
abbrev main_call41_v0 : Ref sig .tc := ⟨.hbm, 658, rfl⟩
abbrev main_call41_v1 : Ref sig .tc := ⟨.hbm, 659, rfl⟩
abbrev main_call41_v2 : Ref sig .tc := ⟨.hbm, 660, rfl⟩
abbrev main_call41_v3 : Ref sig .tc := ⟨.hbm, 661, rfl⟩
abbrev main_v201 : Ref sig .tc := ⟨.hbm, 662, rfl⟩
abbrev main_call42_v0 : Ref sig .tc := ⟨.hbm, 663, rfl⟩
abbrev main_v202 : Ref sig .tc := ⟨.hbm, 664, rfl⟩
abbrev main_v203 : Ref sig .tc := ⟨.hbm, 665, rfl⟩
abbrev main_v204 : Ref sig .tc := ⟨.hbm, 666, rfl⟩
abbrev main_v205 : Ref sig .tc := ⟨.hbm, 667, rfl⟩
abbrev main_call43_c : Ref sig .tc := ⟨.hbm, 668, rfl⟩
abbrev main_call43_v0 : Ref sig .tc := ⟨.hbm, 669, rfl⟩
abbrev main_call43_v1 : Ref sig .tc := ⟨.hbm, 670, rfl⟩
abbrev main_call43_c_0 : Ref sig .tc := ⟨.hbm, 671, rfl⟩
abbrev main_call43_v2 : Ref sig .tc := ⟨.hbm, 672, rfl⟩
abbrev main_call43_v3 : Ref sig .tc := ⟨.hbm, 673, rfl⟩
abbrev main_call43_v4 : Ref sig .tc := ⟨.hbm, 674, rfl⟩
abbrev main_call43_v5 : Ref sig .tc := ⟨.hbm, 675, rfl⟩
abbrev main_call43_c_1 : Ref sig .tc := ⟨.hbm, 676, rfl⟩
abbrev main_call43_c_2 : Ref sig .tc := ⟨.hbm, 677, rfl⟩
abbrev main_call43_v6 : Ref sig .tc := ⟨.hbm, 678, rfl⟩
abbrev main_call43_v7 : Ref sig .tc := ⟨.hbm, 679, rfl⟩
abbrev main_call43_v8 : Ref sig .tc := ⟨.hbm, 680, rfl⟩
abbrev main_call43_v9 : Ref sig .tc := ⟨.hbm, 681, rfl⟩
abbrev main_call43_v10 : Ref sig .tc := ⟨.hbm, 682, rfl⟩
abbrev main_call43_v11 : Ref sig .tc := ⟨.hbm, 683, rfl⟩
abbrev main_call43_c_3 : Ref sig .tc := ⟨.hbm, 684, rfl⟩
abbrev main_call43_v12 : Ref sig .tc := ⟨.hbm, 685, rfl⟩
abbrev main_call43_v13 : Ref sig .tc := ⟨.hbm, 686, rfl⟩
abbrev main_call43_cst : Ref sig .tc := ⟨.hbm, 687, rfl⟩
abbrev main_call43_v14 : Ref sig .tc := ⟨.hbm, 688, rfl⟩
abbrev main_v206 : Ref sig .tc := ⟨.hbm, 689, rfl⟩
abbrev main_v207 : Ref sig .tc := ⟨.hbm, 690, rfl⟩
abbrev main_call44_c : Ref sig .tc := ⟨.hbm, 691, rfl⟩
abbrev main_call44_v0 : Ref sig .tc := ⟨.hbm, 692, rfl⟩
abbrev main_call44_v1 : Ref sig .tc := ⟨.hbm, 693, rfl⟩
abbrev main_call44_c_0 : Ref sig .tc := ⟨.hbm, 694, rfl⟩
abbrev main_call44_v2 : Ref sig .tc := ⟨.hbm, 695, rfl⟩
abbrev main_call44_v3 : Ref sig .tc := ⟨.hbm, 696, rfl⟩
abbrev main_call44_v4 : Ref sig .tc := ⟨.hbm, 697, rfl⟩
abbrev main_call44_c_1 : Ref sig .tc := ⟨.hbm, 698, rfl⟩
abbrev main_call44_c_2 : Ref sig .tc := ⟨.hbm, 699, rfl⟩
abbrev main_call44_v5 : Ref sig .tc := ⟨.hbm, 700, rfl⟩
abbrev main_call44_v6 : Ref sig .tc := ⟨.hbm, 701, rfl⟩
abbrev main_call44_v7 : Ref sig .tc := ⟨.hbm, 702, rfl⟩
abbrev main_call44_v8 : Ref sig .tc := ⟨.hbm, 703, rfl⟩
abbrev main_call44_v9 : Ref sig .tc := ⟨.hbm, 704, rfl⟩
abbrev main_call44_v10 : Ref sig .tc := ⟨.hbm, 705, rfl⟩
abbrev main_call44_c_3 : Ref sig .tc := ⟨.hbm, 706, rfl⟩
abbrev main_call44_v11 : Ref sig .tc := ⟨.hbm, 707, rfl⟩
abbrev main_call44_v12 : Ref sig .tc := ⟨.hbm, 708, rfl⟩
abbrev main_call44_v13 : Ref sig .tc := ⟨.hbm, 709, rfl⟩
abbrev main_call44_c_4 : Ref sig .tc := ⟨.hbm, 710, rfl⟩
abbrev main_call44_v14 : Ref sig .tc := ⟨.hbm, 711, rfl⟩
abbrev main_v208 : Ref sig .tc := ⟨.hbm, 712, rfl⟩
abbrev main_v209 : Ref sig .tc := ⟨.hbm, 713, rfl⟩
abbrev main_v210 : Ref sig .tc := ⟨.hbm, 714, rfl⟩
abbrev main_v211 : Ref sig .tc := ⟨.hbm, 715, rfl⟩
abbrev main_v212 : Ref sig .tc := ⟨.hbm, 716, rfl⟩
abbrev main_c_46 : Ref sig .tc := ⟨.hbm, 717, rfl⟩
abbrev main_v213 : Ref sig .tc := ⟨.hbm, 718, rfl⟩
abbrev main_v214 : Ref sig .tc := ⟨.hbm, 719, rfl⟩
abbrev main_cst_47 : Ref sig .tc := ⟨.hbm, 720, rfl⟩
abbrev main_call45_v0 : Ref sig .tc := ⟨.hbm, 721, rfl⟩
abbrev main_call45_v1 : Ref sig .tc := ⟨.hbm, 722, rfl⟩
abbrev main_v215 : Ref sig .tc := ⟨.hbm, 723, rfl⟩
abbrev main_call46_v0 : Ref sig .tc := ⟨.hbm, 724, rfl⟩
abbrev main_call46_v1 : Ref sig .tc := ⟨.hbm, 725, rfl⟩
abbrev main_call46_v2 : Ref sig .tc := ⟨.hbm, 726, rfl⟩
abbrev main_call46_v3 : Ref sig .tc := ⟨.hbm, 727, rfl⟩
abbrev main_v216 : Ref sig .tc := ⟨.hbm, 728, rfl⟩
abbrev main_call47_v0 : Ref sig .tc := ⟨.hbm, 729, rfl⟩
abbrev main_v217 : Ref sig .tc := ⟨.hbm, 730, rfl⟩
abbrev main_v218 : Ref sig .tc := ⟨.hbm, 731, rfl⟩
abbrev main_v219 : Ref sig .tc := ⟨.hbm, 732, rfl⟩
abbrev main_v220 : Ref sig .tc := ⟨.hbm, 733, rfl⟩
abbrev main_call48_c : Ref sig .tc := ⟨.hbm, 734, rfl⟩
abbrev main_call48_v0 : Ref sig .tc := ⟨.hbm, 735, rfl⟩
abbrev main_call48_v1 : Ref sig .tc := ⟨.hbm, 736, rfl⟩
abbrev main_call48_c_0 : Ref sig .tc := ⟨.hbm, 737, rfl⟩
abbrev main_call48_v2 : Ref sig .tc := ⟨.hbm, 738, rfl⟩
abbrev main_call48_v3 : Ref sig .tc := ⟨.hbm, 739, rfl⟩
abbrev main_call48_v4 : Ref sig .tc := ⟨.hbm, 740, rfl⟩
abbrev main_call48_v5 : Ref sig .tc := ⟨.hbm, 741, rfl⟩
abbrev main_call48_c_1 : Ref sig .tc := ⟨.hbm, 742, rfl⟩
abbrev main_call48_c_2 : Ref sig .tc := ⟨.hbm, 743, rfl⟩
abbrev main_call48_v6 : Ref sig .tc := ⟨.hbm, 744, rfl⟩
abbrev main_call48_v7 : Ref sig .tc := ⟨.hbm, 745, rfl⟩
abbrev main_call48_v8 : Ref sig .tc := ⟨.hbm, 746, rfl⟩
abbrev main_call48_v9 : Ref sig .tc := ⟨.hbm, 747, rfl⟩
abbrev main_call48_v10 : Ref sig .tc := ⟨.hbm, 748, rfl⟩
abbrev main_call48_v11 : Ref sig .tc := ⟨.hbm, 749, rfl⟩
abbrev main_call48_c_3 : Ref sig .tc := ⟨.hbm, 750, rfl⟩
abbrev main_call48_v12 : Ref sig .tc := ⟨.hbm, 751, rfl⟩
abbrev main_call48_v13 : Ref sig .tc := ⟨.hbm, 752, rfl⟩
abbrev main_call48_cst : Ref sig .tc := ⟨.hbm, 753, rfl⟩
abbrev main_call48_v14 : Ref sig .tc := ⟨.hbm, 754, rfl⟩
abbrev main_v221 : Ref sig .tc := ⟨.hbm, 755, rfl⟩
abbrev main_v222 : Ref sig .tc := ⟨.hbm, 756, rfl⟩
abbrev main_call49_c : Ref sig .tc := ⟨.hbm, 757, rfl⟩
abbrev main_call49_v0 : Ref sig .tc := ⟨.hbm, 758, rfl⟩
abbrev main_call49_v1 : Ref sig .tc := ⟨.hbm, 759, rfl⟩
abbrev main_call49_c_0 : Ref sig .tc := ⟨.hbm, 760, rfl⟩
abbrev main_call49_v2 : Ref sig .tc := ⟨.hbm, 761, rfl⟩
abbrev main_call49_v3 : Ref sig .tc := ⟨.hbm, 762, rfl⟩
abbrev main_call49_v4 : Ref sig .tc := ⟨.hbm, 763, rfl⟩
abbrev main_call49_c_1 : Ref sig .tc := ⟨.hbm, 764, rfl⟩
abbrev main_call49_c_2 : Ref sig .tc := ⟨.hbm, 765, rfl⟩
abbrev main_call49_v5 : Ref sig .tc := ⟨.hbm, 766, rfl⟩
abbrev main_call49_v6 : Ref sig .tc := ⟨.hbm, 767, rfl⟩
abbrev main_call49_v7 : Ref sig .tc := ⟨.hbm, 768, rfl⟩
abbrev main_call49_v8 : Ref sig .tc := ⟨.hbm, 769, rfl⟩
abbrev main_call49_v9 : Ref sig .tc := ⟨.hbm, 770, rfl⟩
abbrev main_call49_v10 : Ref sig .tc := ⟨.hbm, 771, rfl⟩
abbrev main_call49_c_3 : Ref sig .tc := ⟨.hbm, 772, rfl⟩
abbrev main_call49_v11 : Ref sig .tc := ⟨.hbm, 773, rfl⟩
abbrev main_call49_v12 : Ref sig .tc := ⟨.hbm, 774, rfl⟩
abbrev main_call49_v13 : Ref sig .tc := ⟨.hbm, 775, rfl⟩
abbrev main_call49_c_4 : Ref sig .tc := ⟨.hbm, 776, rfl⟩
abbrev main_call49_v14 : Ref sig .tc := ⟨.hbm, 777, rfl⟩
abbrev main_v223 : Ref sig .tc := ⟨.hbm, 778, rfl⟩
abbrev main_v224 : Ref sig .tc := ⟨.hbm, 779, rfl⟩
abbrev main_v225 : Ref sig .tc := ⟨.hbm, 780, rfl⟩
abbrev main_v226 : Ref sig .tc := ⟨.hbm, 781, rfl⟩
abbrev main_v227 : Ref sig .tc := ⟨.hbm, 782, rfl⟩
abbrev main_c_48 : Ref sig .tc := ⟨.hbm, 783, rfl⟩
abbrev main_v228 : Ref sig .tc := ⟨.hbm, 784, rfl⟩
abbrev main_v229 : Ref sig .tc := ⟨.hbm, 785, rfl⟩
abbrev main_cst_49 : Ref sig .tc := ⟨.hbm, 786, rfl⟩
abbrev main_call50_v0 : Ref sig .tc := ⟨.hbm, 787, rfl⟩
abbrev main_call50_v1 : Ref sig .tc := ⟨.hbm, 788, rfl⟩
abbrev main_v230 : Ref sig .tc := ⟨.hbm, 789, rfl⟩
abbrev main_call51_v0 : Ref sig .tc := ⟨.hbm, 790, rfl⟩
abbrev main_call51_v1 : Ref sig .tc := ⟨.hbm, 791, rfl⟩
abbrev main_call51_v2 : Ref sig .tc := ⟨.hbm, 792, rfl⟩
abbrev main_call51_v3 : Ref sig .tc := ⟨.hbm, 793, rfl⟩
abbrev main_v231 : Ref sig .tc := ⟨.hbm, 794, rfl⟩
abbrev main_call52_v0 : Ref sig .tc := ⟨.hbm, 795, rfl⟩
abbrev main_v232 : Ref sig .tc := ⟨.hbm, 796, rfl⟩
abbrev main_cst_50 : Ref sig .tc := ⟨.hbm, 797, rfl⟩
abbrev main_v233 : Ref sig .tc := ⟨.hbm, 798, rfl⟩
abbrev main_v234 : Ref sig .tc := ⟨.hbm, 799, rfl⟩
abbrev main_v235 : Ref sig .tc := ⟨.hbm, 800, rfl⟩
abbrev main_v236 : Ref sig .tc := ⟨.hbm, 801, rfl⟩
abbrev main_v237 : Ref sig .tc := ⟨.hbm, 802, rfl⟩
abbrev main_cst_51 : Ref sig .tc := ⟨.hbm, 803, rfl⟩
abbrev main_v238 : Ref sig .tc := ⟨.hbm, 804, rfl⟩
abbrev main_v239 : Ref sig .tc := ⟨.hbm, 805, rfl⟩
abbrev main_cst_52 : Ref sig .tc := ⟨.hbm, 806, rfl⟩
abbrev main_v240 : Ref sig .tc := ⟨.hbm, 807, rfl⟩
abbrev main_cst_53 : Ref sig .tc := ⟨.hbm, 808, rfl⟩
abbrev main_v241 : Ref sig .tc := ⟨.hbm, 809, rfl⟩
abbrev main_v242 : Ref sig .tc := ⟨.hbm, 810, rfl⟩
abbrev main_v243 : Ref sig .tc := ⟨.hbm, 811, rfl⟩
abbrev main_v244 : Ref sig .tc := ⟨.hbm, 812, rfl⟩
abbrev main_v245 : Ref sig .tc := ⟨.hbm, 813, rfl⟩
abbrev main_v246 : Ref sig .tc := ⟨.hbm, 814, rfl⟩
abbrev main_cst_54 : Ref sig .tc := ⟨.hbm, 815, rfl⟩
abbrev main_v247 : Ref sig .tc := ⟨.hbm, 816, rfl⟩
abbrev main_v248 : Ref sig .tc := ⟨.hbm, 817, rfl⟩
abbrev main_v249 : Ref sig .tc := ⟨.hbm, 818, rfl⟩
abbrev main_v250 : Ref sig .tc := ⟨.hbm, 819, rfl⟩
abbrev main_v251 : Ref sig .tc := ⟨.hbm, 820, rfl⟩

abbrev nD : Nat := 1
abbrev τ : Topo := Topo.v7x

variable {F : FTy → Type} [FloatOps F]
-- ==== Proof.Spec.lean ====
/- The greedy selection of modes, for one agent, over extended reals: which mode a step picks, what the scores become,
   and that a stable descending sort of a row starts with the picked mode. -/
module

public import Idealize.ShloMosaic.Lib.Pointwise
public import Idealize.ShloMosaic.Lib.SortFacts

@[expose] public section

set_option maxRecDepth 16384

noncomputable section

namespace ModeNms

open Idealize.ShloMosaic

/-! ## The picked mode -/

/-- `i` is the first index at which `s` is greatest. -/
def IsPick {n : Nat} (s : Fin n → EReal) (i : Fin n) : Prop := (∀ j, s j ≤ s i) ∧ ∀ j, j < i → s j < s i

theorem IsPick.eq {n : Nat} {s : Fin n → EReal} {i k : Fin n} (hi : IsPick s i) (hk : IsPick s k) : i = k := by
  rcases lt_trichotomy i k with h | h | h
  · exact absurd (hi.1 k) (not_le.2 (hk.2 i h))
  · exact h
  · exact absurd (hk.1 i) (not_le.2 (hi.2 k h))

theorem exists_isPick (s : Fin 32 → EReal) : ∃ i, IsPick s i := by
  obtain ⟨m, -, hm⟩ := Finset.exists_max_image Finset.univ s ⟨0, Finset.mem_univ _⟩
  have hne : (Finset.univ.filter fun i => s m ≤ s i).Nonempty := ⟨m, by simp⟩
  refine ⟨(Finset.univ.filter fun i => s m ≤ s i).min' hne, ?_, ?_⟩
  · intro j
    have := (Finset.mem_filter.1 ((Finset.univ.filter fun i => s m ≤ s i).min'_mem hne)).2
    exact (hm j (Finset.mem_univ _)).trans this
  · intro j hj
    by_contra hlt
    have h1 := (Finset.mem_filter.1 ((Finset.univ.filter fun i => s m ≤ s i).min'_mem hne)).2
    have h2 : j ∈ Finset.univ.filter fun i => s m ≤ s i :=
      Finset.mem_filter.2 ⟨Finset.mem_univ _, h1.trans (not_lt.1 hlt)⟩
    exact absurd hj (not_lt.2 (Finset.min'_le _ _ h2))

/-- The first index at which a row of scores is greatest. -/
def pick (s : Fin 32 → EReal) : Fin 32 := (exists_isPick s).choose

theorem pick_isPick (s : Fin 32 → EReal) : IsPick s (pick s) := (exists_isPick s).choose_spec

theorem IsPick.pick_eq {s : Fin 32 → EReal} {i : Fin 32} (h : IsPick s i) : pick s = i := (pick_isPick s).eq h

/-! ## One step, and the chain of steps -/

/-- The scores after mode `i` has been picked: `-1` at `i`, a hundredth of the score at the modes near `i`. -/
def down (near : Fin 32 → Fin 32 → BitVec 1) (s : Fin 32 → EReal) (i j : Fin 32) : EReal :=
  if j = i then -1 else if near i j = 1#1 then s j * ((1 / 100 : ℝ) : EReal) else s j

/-- The scores before step `t`. -/
def scoreAt (near : Fin 32 → Fin 32 → BitVec 1) (p : Fin 32 → EReal) : Nat → Fin 32 → EReal
  | 0 => p
  | t + 1 => fun j => down near (scoreAt near p t) (pick (scoreAt near p t)) j

/-- The mode step `t` picks. -/
def sel (near : Fin 32 → Fin 32 → BitVec 1) (p : Fin 32 → EReal) (t : Nat) : Fin 32 := pick (scoreAt near p t)

theorem sel_zero_le (near : Fin 32 → Fin 32 → BitVec 1) (p : Fin 32 → EReal) (j : Fin 32) : p j ≤ p (sel near p 0) :=
  (pick_isPick p).1 j

/-! ## A stable descending sort starts with the picked mode -/

theorem head_stableSort {n : Nat} (s : Fin n → EReal) (R : Fin n → Fin n → Bool)
    (hR : ∀ a b, R a b = true ↔ s b < s a) (l : List (Fin n)) (hl : l.Pairwise (· < ·)) (hne : l ≠ []) :
    ∃ h t, stableSort R l = h :: t ∧ h ∈ l ∧ (∀ j ∈ l, s j ≤ s h) ∧ ∀ j ∈ l, j < h → s j < s h := by
  induction l with
  | nil => exact absurd rfl hne
  | cons a l ih =>
    rw [List.pairwise_cons] at hl
    by_cases hl0 : l = []
    · subst hl0
      refine ⟨a, [], rfl, List.mem_singleton.2 rfl, ?_, ?_⟩
      · intro j hj; rw [List.mem_singleton.1 hj]
      · intro j hj hlt; rw [List.mem_singleton.1 hj] at hlt; exact absurd hlt (lt_irrefl _)
    · obtain ⟨h, t, he, hmem, hmax, hfst⟩ := ih hl.2 hl0
      by_cases hc : R h a = true
      · have hlt := (hR h a).1 hc
        refine ⟨h, insertBefore R a t, ?_, List.mem_cons_of_mem _ hmem, ?_, ?_⟩
        · show insertBefore R a (stableSort R l) = _
          rw [he, insertBefore, if_pos hc]
        · intro j hj
          rcases List.mem_cons.1 hj with rfl | hj
          · exact hlt.le
          · exact hmax j hj
        · intro j hj hjh
          rcases List.mem_cons.1 hj with rfl | hj
          · exact hlt
          · exact hfst j hj hjh
      · have hle : s h ≤ s a := not_lt.1 fun hlt => hc ((hR h a).2 hlt)
        refine ⟨a, h :: t, ?_, List.mem_cons_self, ?_, ?_⟩
        · show insertBefore R a (stableSort R l) = _
          rw [he, insertBefore, if_neg hc]
        · intro j hj
          rcases List.mem_cons.1 hj with rfl | hj
          · exact le_rfl
          · exact (hmax j hj).trans hle
        · intro j hj hja
          rcases List.mem_cons.1 hj with rfl | hj
          · exact absurd hja (lt_irrefl _)
          · exact absurd (hl.1 j hj) (not_lt.2 hja.le)

theorem sortedFrom_zero_isPick (s : Fin 32 → EReal) (R : Fin 32 → Fin 32 → Bool)
    (hR : ∀ a b, R a b = true ↔ s b < s a) : IsPick s (sortedFrom R 0) := by
  obtain ⟨h, t, he, -, hmax, hfst⟩ := head_stableSort s R hR (List.finRange 32)
    (List.pairwise_lt_finRange 32) (by decide)
  have h0 : sortedFrom R 0 = h := by
    unfold sortedFrom sortPositions
    simp only [he, List.get_eq_getElem]
    rfl
  rw [h0]
  exact ⟨fun j => hmax j (List.mem_finRange j), fun j hj => hfst j (List.mem_finRange j) hj⟩

end ModeNms

end
-- ==== Proof.Scalars.lean ====
/- Facts about single words and single extended reals that the two programs' steps come down to: a masked sum is one
   term, the least index at a row's maximum is the picked mode, small words survive the trip through floats. -/
module

public import proofs.«01_k».proof.Proof.Spec

@[expose] public section

set_option maxRecDepth 16384

noncomputable section

namespace ModeNms

open Idealize.ShloMosaic

/-! ## Words -/

theorem ofNat_inj {n : Nat} (hn : n ≤ 2 ^ 31) (i j : Fin n) : BitVec.ofNat 32 (i : Nat) = BitVec.ofNat 32 (j : Nat) ↔ i = j := by
  constructor
  · intro h
    have h' := congrArg BitVec.toNat h
    simp only [BitVec.toNat_ofNat] at h'
    have hi := i.2; have hj := j.2
    rw [Nat.mod_eq_of_lt (by omega), Nat.mod_eq_of_lt (by omega)] at h'
    exact Fin.ext h'
  · rintro rfl; rfl

theorem cmpi_eq_apply (a b : BitVec 32) : IntOp.cmpi .eq a b = if a = b then 1#1 else 0#1 := by
  by_cases h : a = b
  · subst h; simp [IntOp.cmpi]
  · rw [if_neg h]
    show BitVec.ofBool (a == b) = 0#1
    rw [beq_eq_false_iff_ne.2 h]; rfl

theorem cmpi_ofNat {n : Nat} (hn : n ≤ 2 ^ 31) (i j : Fin n) :
    IntOp.cmpi .eq (BitVec.ofNat 32 (i : Nat)) (BitVec.ofNat 32 (j : Nat)) = if i = j then 1#1 else 0#1 := by
  rw [cmpi_eq_apply]
  simp only [ofNat_inj hn]

theorem select_if {α : Type} (p : Prop) [Decidable p] (a b : α) : Scalar.select (if p then 1#1 else 0#1) a b = if p then a else b := by
  by_cases h : p
  · simp [h, Scalar.select]
  · simp [h, Scalar.select]

/-- A sum masked by equality of the running word with the word of `i` is the term at `i`. -/
theorem sum_select {n : Nat} (hn : n ≤ 2 ^ 31) (i : Fin n) (f : Fin n → EReal) :
    (∑ x : Fin n, Scalar.select (IntOp.cmpi .eq (BitVec.ofNat 32 (x : Nat)) (BitVec.ofNat 32 (i : Nat))) (f x) 0) = f i := by
  simp only [cmpi_ofNat hn, select_if]
  rw [Finset.sum_ite_eq' Finset.univ i f, if_pos (Finset.mem_univ _)]

theorem toInt_small {k : Nat} (hk : k < 2 ^ 31) : (BitVec.ofNat 32 k).toInt = (k : Int) := by
  rw [BitVec.toInt_eq_toNat_of_lt] <;> simp only [BitVec.toNat_ofNat] <;> omega

/-- A small word, made a float and brought back, is itself. -/
theorem word_round (k : Nat) (hk : k < 2 ^ 31) :
    FloatOps.fptosi (F := Ideal) (φ := .f32) 32 (FloatOps.sitofp (F := Ideal) .f32 (BitVec.ofNat 32 k)) = BitVec.ofNat 32 k := by
  show Ideal.fptosi 32 ((((BitVec.ofNat 32 k).toInt : ℝ)) : EReal) = _
  rw [toInt_small hk, Ideal.fptosi, Ideal.toIntClamped_coe]
  have h1 : (0 : ℝ) ≤ (((k : Int)) : ℝ) := by exact_mod_cast Int.natCast_nonneg k
  rw [if_pos h1, Int.floor_intCast]
  have h2 : max (-(2 ^ (32 - 1) : Nat) : Int) (min (((2 ^ (32 - 1) : Nat) : Int) - 1) (k : Int)) = (k : Int) := by omega
  rw [h2]
  simp

theorem minsi_toInt (a b : BitVec 32) : (IntOp.minsi a b).toInt = min a.toInt b.toInt := by
  unfold IntOp.minsi
  by_cases h : a.slt b
  · rw [if_pos h]; rw [BitVec.slt_eq_decide, decide_eq_true_eq] at h; omega
  · rw [if_neg h]; rw [BitVec.slt_eq_decide, decide_eq_true_eq] at h; omega

/-! ## The maximum of a row and the least index at it -/

theorem negInf : Ideal.ofBits .f32 0xFF800000#32 = (⊥ : EReal) := by simp [Ideal.ofBits, Ideal.ieee]

theorem fold_max_eq {n : Nat} (s : Fin n → EReal) (i : Fin n) (hi : ∀ j, s j ≤ s i) :
    Finset.univ.fold max (⊥ : EReal) s = s i := by
  apply le_antisymm
  · exact (Finset.fold_max_le _).2 ⟨bot_le, fun j _ => hi j⟩
  · exact (Finset.le_fold_max _).2 (Or.inr ⟨i, Finset.mem_univ _, le_rfl⟩)

theorem fold_minsi_pick (s : Fin 32 → EReal) :
    Finset.univ.fold IntOp.minsi 2147483647#32
      (fun x : Fin 32 => if s x = s (pick s) then BitVec.ofNat 32 (x : Nat) else 32#32) = BitVec.ofNat 32 (pick s : Nat) := by
  apply BitVec.eq_of_toInt_eq
  rw [← Finset.fold_hom (op := IntOp.minsi) (op' := (min : Int → Int → Int)) (m := BitVec.toInt) minsi_toInt]
  obtain ⟨hmax, hfst⟩ := pick_isPick s
  have hlt := (pick s).2
  rw [toInt_small (k := (pick s : Nat)) (by omega)]
  apply le_antisymm
  · refine (Finset.fold_min_le _).2 (Or.inr ⟨pick s, Finset.mem_univ _, ?_⟩)
    rw [if_pos rfl, toInt_small (k := (pick s : Nat)) (by omega)]
  · refine (Finset.le_fold_min _).2 ⟨?_, fun x _ => ?_⟩
    · have : (2147483647#32).toInt = 2147483647 := by decide
      omega
    · by_cases hx : s x = s (pick s)
      · rw [if_pos hx, toInt_small (k := (x : Nat)) (by omega)]
        by_contra hlt'
        exact absurd (hx ▸ hfst x (Fin.lt_def.2 (by omega))) (lt_irrefl _)
      · rw [if_neg hx]
        have : (32#32).toInt = 32 := by decide
        omega

/-! ## Closeness of two modes -/

theorem sq_sub_comm (x y : EReal) : (x - y) * (x - y) = (y - x) * (y - x) := by
  induction x <;> induction y <;> try rfl
  rename_i a b
  rw [← EReal.coe_sub, ← EReal.coe_sub, ← EReal.coe_mul, ← EReal.coe_mul]
  congr 1
  ring

/-- Whether the end points of two modes lie nearer than the threshold. -/
def nearB {n : Nat} (thr : EReal) (x y : Fin n → EReal) (i j : Fin n) : BitVec 1 :=
  if Ideal.sqrt ((x i - x j) * (x i - x j) + (y i - y j) * (y i - y j)) < thr then 1#1 else 0#1

end ModeNms

end
-- ==== Proof.KernelSteps.lean ====
/- The kernel's body, read at an index: one block's softmax, its end points, its chain of selection steps, the selected
   trajectories and the selected scores, as functions of the block's scores, trajectories and type weights. -/
module

public import proofs.«01_k».proof.Proof.Gen.KernelIdeal.Frame
public import proofs.«01_k».proof.Proof.Scalars

@[expose] public section

set_option maxRecDepth 16384

noncomputable section

namespace ModeNms

open Idealize.ShloMosaic Cert.KernelIdeal Cert.KernelIdeal.Gen

/-! ## The columns the selection works on -/

/-- A row of scores less its maximum, exponentiated and divided by the sum of the exponentials. -/
def smax {n : Nat} (v : Fin n → EReal) (j : Fin n) : EReal :=
  Ideal.div (Ideal.exp (v j - Finset.univ.fold max ⊥ v)) (∑ x, Ideal.exp (v x - Finset.univ.fold max ⊥ v))

/-- The distance threshold of one agent from its three type weights. -/
def thr3 (a : Fin 3 → EReal) : EReal :=
  Ideal.ofBits .f32 0x40200000#32 * a 0 + a 1 + Ideal.ofBits .f32 0x40000000#32 * a 2

variable (x0 : Vec Ideal S1x32x64 .f32) (x1 : Vec Ideal S1x32x3x64x80 .f32) (x2 : Vec Ideal S1x3x64 .f32)

/-- The probabilities of agent `a`'s modes. -/
def pCol (a : Fin 64) : Fin 32 → EReal := smax fun j => x0 (ix3 0 j a)
/-- The closeness of agent `a`'s modes. -/
def nearCol (a : Fin 64) : Fin 32 → Fin 32 → BitVec 1 :=
  nearB (thr3 fun k => x2 (ix3 0 k a)) (fun j => x1 (ix5 0 j 0 a 79)) (fun j => x1 (ix5 0 j 1 a 79))

theorem kP_apply (j : Fin 32) (a : Fin 64) : k0_pay87 (F := Ideal) x0 x1 x2 (ix2 j a) = pCol x0 a j := by
  pointwise [k0_pay87, k0_pay12, k0_pay81, k0_pay7, k0_pay85, k0_pay11]
  unfold pCol smax
  rw [negInf]

theorem kThr_apply (a : Fin 64) : k0_pay82 (F := Ideal) x0 x1 x2 (ix2 0 a) = thr3 fun k => x2 (ix3 0 k a) := by
  pointwise [k0_pay82, k0_pay8]
  rfl

theorem kX_apply (j : Fin 32) (a : Fin 64) : k0_pay83 (F := Ideal) x0 x1 x2 (ix2 j a) = x1 (ix5 0 j 0 a 79) := by
  pointwise [k0_pay83, k0_pay9]
  exact sum_select (by norm_num) (79 : Fin 80) fun t => x1 (ix5 0 j 0 a t)

theorem kY_apply (j : Fin 32) (a : Fin 64) : k0_pay84 (F := Ideal) x0 x1 x2 (ix2 j a) = x1 (ix5 0 j 1 a 79) := by
  pointwise [k0_pay84, k0_pay10]
  exact sum_select (by norm_num) (79 : Fin 80) fun t => x1 (ix5 0 j 1 a t)

/-! ## One step -/

abbrev kI : IVec S32x64 32 := iota .tc S32x64 32 [0] iota_S32x64_d0_w32
abbrev kMx (sc : FVec Ideal S32x64 .f32) : FVec Ideal S64 .f32 :=
  multiReduction .maximumf [0] S64 sc 0xFF800000#32 reduces_S32x64_S64 (.inl rfl) rfl

theorem idx_step (sc : FVec Ideal S32x64 .f32) (a : Fin 64) :
    k0_pay18 (F := Ideal) kI sc (kMx sc) (ix2 0 a) = BitVec.ofNat 32 (pick fun j => sc (ix2 j a)) := by
  pointwise [k0_pay18]
  rw [negInf, fold_max_eq _ _ (pick_isPick fun j => sc (ix2 j a)).1]
  exact fold_minsi_pick fun j => sc (ix2 j a)

theorem psel_step (p sc : FVec Ideal S32x64 .f32) (mx : FVec Ideal S64 .f32) (a : Fin 64) (i : Fin 32)
    (h : k0_pay18 (F := Ideal) kI sc mx (ix2 0 a) = BitVec.ofNat 32 (i : Nat)) :
    k0_pay20 (F := Ideal) p kI sc mx (ix2 0 a) = p (ix2 i a) := by
  pointwise [k0_pay20, k0_pay19, h]
  exact sum_select (by norm_num) i fun j => p (ix2 j a)

theorem negOne : Ideal.ofBits .f32 0xBF800000#32 = (-1 : EReal) := IdealRules.sign_bit.ideal_negOnePat .f32

theorem sc_step (thr : FVec Ideal S1x64 .f32) (xs ys sc : FVec Ideal S32x64 .f32) (mx : FVec Ideal S64 .f32) (a : Fin 64)
    (i j : Fin 32) (h : k0_pay18 (F := Ideal) kI sc mx (ix2 0 a) = BitVec.ofNat 32 (i : Nat)) :
    k0_pay21 (F := Ideal) thr xs ys kI sc mx (ix2 j a)
      = down (nearB (thr (ix2 0 a)) (fun j => xs (ix2 j a)) fun j => ys (ix2 j a)) (fun j => sc (ix2 j a)) i j := by
  pointwise [k0_pay21, k0_pay19, h]
  rw [sum_select (by norm_num) i fun j => xs (ix2 j a), sum_select (by norm_num) i fun j => ys (ix2 j a),
    cmpi_ofNat (by norm_num), select_if, negOne]
  unfold down nearB
  rw [sq_sub_comm (xs (ix2 j a)), sq_sub_comm (ys (ix2 j a))]
  by_cases hj : j = i
  · rw [if_pos hj, if_pos hj]
  · rw [if_neg hj, if_neg hj]
    by_cases hn : Ideal.sqrt ((xs (ix2 i a) - xs (ix2 j a)) * (xs (ix2 i a) - xs (ix2 j a))
        + (ys (ix2 i a) - ys (ix2 j a)) * (ys (ix2 i a) - ys (ix2 j a))) < thr (ix2 0 a)
    · rw [if_pos hn, if_pos hn, if_pos rfl]; rfl
    · rw [if_neg hn, if_neg hn, if_neg (by decide), mul_one]

/-! ## The chain of steps -/

/-- The scores before step `t`. -/
def kSc : Nat → FVec Ideal S32x64 .f32
  | 0 => k0_pay87 x0 x1 x2
  | t + 1 => k0_pay21 (k0_pay82 x0 x1 x2) (k0_pay83 x0 x1 x2) (k0_pay84 x0 x1 x2) kI (kSc t) (kMx (kSc t))

/-- The words of the modes step `t` picks. -/
def kIdx (t : Nat) : IVec S1x64 32 := k0_pay18 (F := Ideal) kI (kSc x0 x1 x2 t) (kMx (kSc x0 x1 x2 t))

/-- The probabilities of the modes step `t` picks. -/
def kPs (t : Nat) : FVec Ideal S1x64 .f32 := k0_pay20 (k0_pay87 x0 x1 x2) kI (kSc x0 x1 x2 t) (kMx (kSc x0 x1 x2 t))

/-- The mode step `t` picks for agent `a`. -/
def kSel (a : Fin 64) (t : Nat) : Fin 32 := sel (nearCol x1 x2 a) (pCol x0 a) t

theorem kSc_apply (t : Nat) (a : Fin 64) :
    (fun j => kSc x0 x1 x2 t (ix2 j a)) = scoreAt (nearCol x1 x2 a) (pCol x0 a) t := by
  induction t with
  | zero => funext j; exact kP_apply x0 x1 x2 j a
  | succ t ih =>
    funext j
    show k0_pay21 (F := Ideal) _ _ _ kI (kSc x0 x1 x2 t) (kMx (kSc x0 x1 x2 t)) (ix2 j a) = _
    rw [sc_step _ _ _ _ _ a _ j (idx_step _ a), ih, kThr_apply]
    simp only [kX_apply, kY_apply]
    rfl

theorem kIdx_apply (t : Nat) (a : Fin 64) : kIdx x0 x1 x2 t (ix2 0 a) = BitVec.ofNat 32 (kSel x0 x1 x2 a t : Nat) := by
  unfold kIdx kSel sel
  rw [idx_step, kSc_apply]

theorem kPs_apply (t : Nat) (a : Fin 64) : kPs x0 x1 x2 t (ix2 0 a) = pCol x0 a (kSel x0 x1 x2 a t) := by
  unfold kPs
  rw [psel_step _ _ _ a (kSel x0 x1 x2 a t) (kIdx_apply x0 x1 x2 t a), kP_apply]

/-! ## The selected trajectories -/

theorem mask_apply (idx : IVec S1x64 32) (j : Fin 32) (a : Fin 64) (t : Fin 80) (i : Fin 32)
    (h : idx (ix2 0 a) = BitVec.ofNat 32 (i : Nat)) :
    k0_pay42 (F := Ideal) idx (ix3 j a t) = IntOp.cmpi .eq (BitVec.ofNat 32 (j : Nat)) (BitVec.ofNat 32 (i : Nat)) := by
  pointwise [k0_pay42, k0_pay40]
  rw [Fin.sum_univ_one, h, word_round _ (by omega)]

theorem selector_apply (x : Fin 80) (u : Fin 16) :
    k0_pay41 (F := Ideal) (ix2 x u) = if x = ⟨4 + 5 * (u : Nat), by omega⟩ then 1 else 0 := by
  pointwise [k0_pay41]
  have hw : IntOp.addi 4#32 (IntOp.muli 5#32 (BitVec.ofNat 32 (u : Nat)))
      = BitVec.ofNat 32 ((⟨4 + 5 * (u : Nat), by omega⟩ : Fin 80) : Nat) := by
    revert u; decide
  rw [hw, cmpi_ofNat (by norm_num)]
  by_cases hx : x = (⟨4 + 5 * (u : Nat), by omega⟩ : Fin 80)
  · rw [if_pos hx, if_pos hx]
    show (((BitVec.setWidth 32 1#1).toInt : ℝ) : EReal) = 1
    have : (BitVec.setWidth 32 1#1).toInt = 1 := by decide
    rw [this]; simp
  · rw [if_neg hx, if_neg hx]
    show (((BitVec.setWidth 32 0#1).toInt : ℝ) : EReal) = 0
    have : (BitVec.setWidth 32 0#1).toInt = 0 := by decide
    rw [this]; simp

theorem traj_apply (idx : IVec S1x64 32) (x : Vec Ideal S1x32x1x64x80 .f32) (a : Fin 64) (u : Fin 16) (i : Fin 32)
    (h : idx (ix2 0 a) = BitVec.ofNat 32 (i : Nat)) :
    k0_pay43 (F := Ideal) k0_pay41 (k0_pay42 (F := Ideal) idx) x (ix5 0 0 0 a u) = x (ix5 0 i 0 a ⟨4 + 5 * (u : Nat), by omega⟩) := by
  pointwise [k0_pay43]
  simp only [mask_apply idx _ a _ i h, selector_apply]
  have hs : ∀ t : Fin 80, (∑ j : Fin 32, Scalar.select (IntOp.cmpi .eq (BitVec.ofNat 32 (j : Nat)) (BitVec.ofNat 32 (i : Nat)))
      (x (ix5 0 j 0 a t)) 0 : EReal) = x (ix5 0 i 0 a t) := fun t => sum_select (by norm_num) i fun j => x (ix5 0 j 0 a t)
  simp only [mul_ite, mul_one, mul_zero]
  rw [Finset.sum_ite_eq' Finset.univ (⟨4 + 5 * (u : Nat), by omega⟩ : Fin 80), if_pos (Finset.mem_univ _)]
  exact hs _

/-! ## The selected scores -/

/-- The scores of six selected modes from their probabilities: each divided by the largest, squared, and divided by the
    sum of the squares. -/
def sqRatio (q : Fin 6 → EReal) (j : Fin 6) : EReal :=
  Ideal.div (q j) (max (max (max (max (max (q 0) (q 1)) (q 2)) (q 3)) (q 4)) (q 5))
    * Ideal.div (q j) (max (max (max (max (max (q 0) (q 1)) (q 2)) (q 3)) (q 4)) (q 5))

def sqScore (q : Fin 6 → EReal) (j : Fin 6) : EReal :=
  Ideal.div (sqRatio q j) (sqRatio q 0 + sqRatio q 1 + sqRatio q 2 + sqRatio q 3 + sqRatio q 4 + sqRatio q 5)

end ModeNms

end
-- ==== Proof.KernelBlock.lean ====
/- What one grid point of the kernel leaves in its two output blocks, as functions of the three input blocks. -/
module

public import proofs.«01_k».proof.Proof.KernelSteps
public import Idealize.ShloMosaic.Lib.Pipeline.ValueKit

@[expose] public section

set_option maxRecDepth 16384

noncomputable section

namespace ModeNms

open Idealize.ShloMosaic Cert.KernelIdeal Cert.KernelIdeal.Gen

variable (x0 : Vec Ideal S1x32x64 .f32) (x1 : Vec Ideal S1x32x3x64x80 .f32) (x2 : Vec Ideal S1x3x64 .f32)

/-! ## The selected trajectories -/

/-- The block of selected trajectories. -/
def blkT (y : S1x6x3x64x16.Idx) : EReal :=
  x1 (ix5 0 (kSel x0 x1 x2 (y 3) (y 1 : Nat)) (y 2) (y 3)
    ⟨4 + 5 * (y 4 : Nat), by have : ((y 4) : Nat) < 16 := (y 4).2; omega⟩)

theorem piece_traj (t : Fin 6) (c : Fin 3) (ld : Vec Ideal S1x32x1x64x80 .f32)
    (hld : ∀ (i : Fin 32) (a : Fin 64) (s : Fin 80), ld (ix5 0 i 0 a s) = x1 (ix5 0 i c a s))
    (x : S1x1x1x64x16.Idx) (y : S1x6x3x64x16.Idx) (h1 : ((y 1) : Nat) = t) (h2 : ((y 2) : Nat) = c)
    (h3 : ((y 3) : Nat) = ((x 3) : Nat)) (h4 : ((y 4) : Nat) = ((x 4) : Nat)) :
    k0_pay43 (F := Ideal) k0_pay41 (k0_pay42 (F := Ideal) (kIdx x0 x1 x2 (t : Nat))) ld x = blkT x0 x1 x2 y := by
  have hx : x = ix5 (0 : Fin 1) (0 : Fin 1) (0 : Fin 1) (x 3) (x 4) := by
    rw [eq_ix5 x]
    congr 1 <;> exact Subsingleton.elim (α := Fin 1) _ _
  have hy : y = ix5 (0 : Fin 1) t c (x 3 : Fin 64) (x 4 : Fin 16) := by
    rw [eq_ix5 y]
    congr 1
    · exact Subsingleton.elim (α := Fin 1) _ _
    · exact Fin.ext h1
    · exact Fin.ext h2
    · exact Fin.ext h3
    · exact Fin.ext h4
  rw [hx, hy]
  exact (traj_apply _ ld (x 3) (x 4) (kSel x0 x1 x2 (x 3) (t : Nat)) (kIdx_apply x0 x1 x2 (t : Nat) (x 3))).trans (hld _ _ _)

theorem blk_traj (y : S1x6x3x64x16.Idx) : out0_3 (F := Ideal) x0 x1 x2 y = blkT x0 x1 x2 y := by
  unfold out0_3
  canon_tiles x h
  case piece0 => exact piece_traj x0 x1 x2 5 2 _ (fun i a s => by pointwise) x y (by show _ = 5; omega) (by show _ = 2; omega) h3 h4
  case piece1 => exact piece_traj x0 x1 x2 5 1 _ (fun i a s => by pointwise) x y (by show _ = 5; omega) (by show _ = 1; omega) h3 h4
  case piece2 => exact piece_traj x0 x1 x2 5 0 _ (fun i a s => by pointwise) x y (by show _ = 5; omega) (by show _ = 0; omega) h3 h4
  case piece3 => exact piece_traj x0 x1 x2 4 2 _ (fun i a s => by pointwise) x y (by show _ = 4; omega) (by show _ = 2; omega) h3 h4
  case piece4 => exact piece_traj x0 x1 x2 4 1 _ (fun i a s => by pointwise) x y (by show _ = 4; omega) (by show _ = 1; omega) h3 h4
  case piece5 => exact piece_traj x0 x1 x2 4 0 _ (fun i a s => by pointwise) x y (by show _ = 4; omega) (by show _ = 0; omega) h3 h4
  case piece6 => exact piece_traj x0 x1 x2 3 2 _ (fun i a s => by pointwise) x y (by show _ = 3; omega) (by show _ = 2; omega) h3 h4
  case piece7 => exact piece_traj x0 x1 x2 3 1 _ (fun i a s => by pointwise) x y (by show _ = 3; omega) (by show _ = 1; omega) h3 h4
  case piece8 => exact piece_traj x0 x1 x2 3 0 _ (fun i a s => by pointwise) x y (by show _ = 3; omega) (by show _ = 0; omega) h3 h4
  case piece9 => exact piece_traj x0 x1 x2 2 2 _ (fun i a s => by pointwise) x y (by show _ = 2; omega) (by show _ = 2; omega) h3 h4
  case piece10 => exact piece_traj x0 x1 x2 2 1 _ (fun i a s => by pointwise) x y (by show _ = 2; omega) (by show _ = 1; omega) h3 h4
  case piece11 => exact piece_traj x0 x1 x2 2 0 _ (fun i a s => by pointwise) x y (by show _ = 2; omega) (by show _ = 0; omega) h3 h4
  case piece12 => exact piece_traj x0 x1 x2 1 2 _ (fun i a s => by pointwise) x y (by show _ = 1; omega) (by show _ = 2; omega) h3 h4
  case piece13 => exact piece_traj x0 x1 x2 1 1 _ (fun i a s => by pointwise) x y (by show _ = 1; omega) (by show _ = 1; omega) h3 h4
  case piece14 => exact piece_traj x0 x1 x2 1 0 _ (fun i a s => by pointwise) x y (by show _ = 1; omega) (by show _ = 0; omega) h3 h4
  case piece15 => exact piece_traj x0 x1 x2 0 2 _ (fun i a s => by pointwise) x y (by show _ = 0; omega) (by show _ = 2; omega) h3 h4
  case piece16 => exact piece_traj x0 x1 x2 0 1 _ (fun i a s => by pointwise) x y (by show _ = 0; omega) (by show _ = 1; omega) h3 h4
  case piece17 => exact piece_traj x0 x1 x2 0 0 _ (fun i a s => by pointwise) x y (by show _ = 0; omega) (by show _ = 0; omega) h3 h4

/-! ## The selected scores -/

/-- The block of selected scores. -/
def blkS (y : S1x6x64.Idx) : EReal :=
  sqScore (fun t => pCol x0 (y 2) (kSel x0 x1 x2 (y 2) (t : Nat))) (y 1)

/-- The six rows of probabilities the scores are made of. -/
theorem rows_eq : (![k0_pay88 (F := Ideal) x0 x1 x2, k0_pay92 x0 x1 x2, k0_pay96 x0 x1 x2, k0_pay102 x0 x1 x2, k0_pay106 x0 x1 x2,
    k0_pay110 x0 x1 x2] : Fin 6 → FVec Ideal S1x64 .f32) = fun t : Fin 6 => kPs x0 x1 x2 (t : Nat) := by
  funext t
  fin_cases t <;> rfl

theorem piece_score (j : Fin 6) (q : Fin 6 → FVec Ideal S1x64 .f32) (v : Vec Ideal S1x1x64 .f32)
    (hv : ∀ a : Fin 64, v (ix3 0 0 a) = sqScore (fun t => q t (ix2 0 a)) j)
    (hq : q = fun t : Fin 6 => kPs x0 x1 x2 (t : Nat))
    (x : S1x1x64.Idx) (y : S1x6x64.Idx) (h1 : ((y 1) : Nat) = j) (h2 : ((y 2) : Nat) = ((x 2) : Nat)) :
    v x = blkS x0 x1 x2 y := by
  have hx : x = ix3 (0 : Fin 1) (0 : Fin 1) (x 2) := by
    rw [eq_ix3 x]
    congr 1 <;> exact Subsingleton.elim (α := Fin 1) _ _
  have hy : y = ix3 (0 : Fin 1) j (x 2 : Fin 64) := by
    rw [eq_ix3 y]
    congr 1
    · exact Subsingleton.elim (α := Fin 1) _ _
    · exact Fin.ext h1
    · exact Fin.ext h2
  rw [hx, hy]
  refine (hv (x 2)).trans ?_
  rw [hq]
  exact congrArg (fun f => sqScore f j) (funext fun t => kPs_apply x0 x1 x2 (t : Nat) (x 2))

/-- The six stored scores over six rows of probabilities. -/
theorem score_apply (q : Fin 6 → FVec Ideal S1x64 .f32) (a : Fin 64) :
    k0_pay1 (F := Ideal) (k0_pay80 (q 0) (q 1) (q 2) (q 3) (q 4) (q 5)) (ix3 0 0 a) = sqScore (fun t => q t (ix2 0 a)) 0
      ∧ k0_pay2 (F := Ideal) (k0_pay74 (q 0) (q 1) (q 2) (q 3) (q 4) (q 5)) (k0_pay79 (q 0) (q 1) (q 2) (q 3) (q 4) (q 5)) (ix3 0 0 a)
        = sqScore (fun t => q t (ix2 0 a)) 1
      ∧ k0_pay3 (F := Ideal) (k0_pay75 (q 0) (q 1) (q 2) (q 3) (q 4) (q 5)) (k0_pay79 (q 0) (q 1) (q 2) (q 3) (q 4) (q 5)) (ix3 0 0 a)
        = sqScore (fun t => q t (ix2 0 a)) 2
      ∧ k0_pay4 (F := Ideal) (k0_pay76 (q 0) (q 1) (q 2) (q 3) (q 4) (q 5)) (k0_pay79 (q 0) (q 1) (q 2) (q 3) (q 4) (q 5)) (ix3 0 0 a)
        = sqScore (fun t => q t (ix2 0 a)) 3
      ∧ k0_pay5 (F := Ideal) (k0_pay77 (q 0) (q 1) (q 2) (q 3) (q 4) (q 5)) (k0_pay79 (q 0) (q 1) (q 2) (q 3) (q 4) (q 5)) (ix3 0 0 a)
        = sqScore (fun t => q t (ix2 0 a)) 4
      ∧ k0_pay6 (F := Ideal) (k0_pay78 (q 0) (q 1) (q 2) (q 3) (q 4) (q 5)) (k0_pay79 (q 0) (q 1) (q 2) (q 3) (q 4) (q 5)) (ix3 0 0 a)
        = sqScore (fun t => q t (ix2 0 a)) 5 := by
  refine ⟨?_, ?_, ?_, ?_, ?_, ?_⟩ <;>
    pointwise [k0_pay1, k0_pay2, k0_pay3, k0_pay4, k0_pay5, k0_pay6, k0_pay80, k0_pay79, k0_pay78, k0_pay77, k0_pay76,
      k0_pay75, k0_pay74, k0_pay73, k0_pay72] <;> rfl

theorem blk_score (y : S1x6x64.Idx) : out0_4 (F := Ideal) x0 x1 x2 y = blkS x0 x1 x2 y := by
  unfold out0_4 k0_pay117
  canon_tiles x h
  case piece0 => exact piece_score x0 x1 x2 5 _ _ (fun a => (score_apply ![k0_pay88 x0 x1 x2, k0_pay92 x0 x1 x2, k0_pay96 x0 x1 x2, k0_pay102 x0 x1 x2, k0_pay106 x0 x1 x2, k0_pay110 x0 x1 x2] a).2.2.2.2.2) (rows_eq x0 x1 x2) x y (by show _ = 5; omega) h2
  case piece1 => exact piece_score x0 x1 x2 4 _ _ (fun a => (score_apply ![k0_pay88 x0 x1 x2, k0_pay92 x0 x1 x2, k0_pay96 x0 x1 x2, k0_pay102 x0 x1 x2, k0_pay106 x0 x1 x2, k0_pay110 x0 x1 x2] a).2.2.2.2.1) (rows_eq x0 x1 x2) x y (by show _ = 4; omega) h2
  case piece2 => exact piece_score x0 x1 x2 3 _ _ (fun a => (score_apply ![k0_pay88 x0 x1 x2, k0_pay92 x0 x1 x2, k0_pay96 x0 x1 x2, k0_pay102 x0 x1 x2, k0_pay106 x0 x1 x2, k0_pay110 x0 x1 x2] a).2.2.2.1) (rows_eq x0 x1 x2) x y (by show _ = 3; omega) h2
  case piece3 => exact piece_score x0 x1 x2 2 _ _ (fun a => (score_apply ![k0_pay88 x0 x1 x2, k0_pay92 x0 x1 x2, k0_pay96 x0 x1 x2, k0_pay102 x0 x1 x2, k0_pay106 x0 x1 x2, k0_pay110 x0 x1 x2] a).2.2.1) (rows_eq x0 x1 x2) x y (by show _ = 2; omega) h2
  case piece4 => exact piece_score x0 x1 x2 1 _ _ (fun a => (score_apply ![k0_pay88 x0 x1 x2, k0_pay92 x0 x1 x2, k0_pay96 x0 x1 x2, k0_pay102 x0 x1 x2, k0_pay106 x0 x1 x2, k0_pay110 x0 x1 x2] a).2.1) (rows_eq x0 x1 x2) x y (by show _ = 1; omega) h2
  case piece5 => exact piece_score x0 x1 x2 0 _ _ (fun a => (score_apply ![k0_pay88 x0 x1 x2, k0_pay92 x0 x1 x2, k0_pay96 x0 x1 x2, k0_pay102 x0 x1 x2, k0_pay106 x0 x1 x2, k0_pay110 x0 x1 x2] a).1) (rows_eq x0 x1 x2) x y (by show _ = 0; omega) h2

end ModeNms

end
-- ==== Proof.KernelArray.lean ====
/- The kernel's two results after the run, as functions of its three arguments. -/
module

public import proofs.«01_k».proof.Proof.Gen.KernelIdeal.Run
public import proofs.«01_k».proof.Proof.KernelBlock

@[expose] public section

set_option maxRecDepth 16384

noncomputable section

namespace ModeNms

open Idealize.ShloMosaic Idealize.ShloMosaic.TcCoe Idealize.SL.Sem Cert.KernelIdeal Cert.KernelIdeal.Gen

/-! ## What the results hold, over the arguments -/

section Spec

variable (A0 : FVec Ideal S64x64x3 .f32) (A1 : FVec Ideal S64x32x64x80x3 .f32) (A2 : FVec Ideal S64x32x64 .f32)

/-- The probabilities of the modes of agent `a` of scene `s`. -/
def pAt (s a : Fin 64) : Fin 32 → EReal := smax fun j => A2 (ix3 s j a)
/-- The closeness of the modes of agent `a` of scene `s`. -/
def nearAt (s a : Fin 64) : Fin 32 → Fin 32 → BitVec 1 :=
  nearB (thr3 fun k => A0 (ix3 s a k)) (fun j => A1 (ix5 s j a 79 0)) (fun j => A1 (ix5 s j a 79 1))
/-- The mode step `t` picks for agent `a` of scene `s`. -/
def selAt (s a : Fin 64) (t : Nat) : Fin 32 := sel (nearAt A0 A1 s a) (pAt A2 s a) t
/-- The time sampled at place `u`. -/
def tAt (u : Fin 16) : Fin 80 := ⟨4 + 5 * (u : Nat), by omega⟩
/-- The selected trajectories, as the kernel lays them out. -/
def arrT (i : S64x6x3x64x16.Idx) : EReal := A1 (ix5 (i 0) (selAt A0 A1 A2 (i 0) (i 3) (i 1 : Nat)) (i 3) (tAt (i 4)) (i 2))
/-- The selected scores, as the kernel lays them out. -/
def arrS (i : S64x6x64.Idx) : EReal := sqScore (fun t => pAt A2 (i 0) (i 2) (selAt A0 A1 A2 (i 0) (i 2) (t : Nat))) (i 1)

variable (x0 : Vec Ideal S1x32x64 .f32) (x1 : Vec Ideal S1x32x3x64x80 .f32) (x2 : Vec Ideal S1x3x64 .f32) (s : Fin 64)

theorem pCol_eq (h0 : ∀ j a, x0 (ix3 0 j a) = A2 (ix3 s j a)) (a : Fin 64) : pCol x0 a = pAt A2 s a :=
  congrArg smax (funext fun j => h0 j a)

theorem kSel_eq (h0 : ∀ j a, x0 (ix3 0 j a) = A2 (ix3 s j a)) (h1 : ∀ i c a t, x1 (ix5 0 i c a t) = A1 (ix5 s i a t c))
    (h2 : ∀ k a, x2 (ix3 0 k a) = A0 (ix3 s a k)) (a : Fin 64) (t : Nat) : kSel x0 x1 x2 a t = selAt A0 A1 A2 s a t := by
  have hn : nearCol x1 x2 a = nearAt A0 A1 s a := by
    unfold nearCol nearAt
    simp only [h1, h2]
  unfold kSel selAt
  rw [hn, pCol_eq A2 x0 s h0]

end Spec

/-! ## The arrays after the run -/

variable (m : (ℓ : Loc nD τ sig) → Buf (Elt Ideal) ℓ)

theorem idx_val : ∀ t : Fin cfg0.N, win0_0.index t = ![t.val, 0, 0] ∧ win0_1.index t = ![t.val, 0, 0, 0, 0]
    ∧ win0_2.index t = ![t.val, 0, 0] ∧ win0_3.index t = ![t.val, 0, 0, 0, 0] ∧ win0_4.index t = ![t.val, 0, 0] :=
  (by decide +kernel : ∀ t : Fin grid0.N, _)

/-- The scene of a grid point. -/
def sceneOf (t : Fin cfg0.N) : Fin 64 := ⟨t.val, t.isLt.trans_eq N_0⟩

theorem blk0_apply (c : Dev nD) (t : Fin cfg0.N) (j : Fin 32) (a : Fin 64) :
    (iblk m c 0 t : Vec Ideal S1x32x64 .f32) (ix3 0 j a) = m ((c : Thread nD τ).loc main_arg2) (ix3 (sceneOf t) j a) := by
  have h : (win0_0.rect t).emb (ix3 0 j a) = ix3 (sceneOf t) j a := by
    blk_ext [idx_val t, Pipeline.WinKind.off, sceneOf]
  show V m c main_arg2 ((win0_0.rect t).emb (ix3 0 j a)) = _
  rw [h, V_main_arg2]

theorem blk1_apply (c : Dev nD) (t : Fin cfg0.N) (j : Fin 32) (k : Fin 3) (a : Fin 64) (u : Fin 80) :
    (iblk m c 1 t : Vec Ideal S1x32x3x64x80 .f32) (ix5 0 j k a u)
      = m ((c : Thread nD τ).loc main_arg1) (ix5 (sceneOf t) j a u k) := by
  have h : (win0_1.rect t).emb (ix5 0 j k a u) = ix5 (sceneOf t) j k a u := by
    blk_ext [idx_val t, Pipeline.WinKind.off, sceneOf]
  have e : V m c main_v0 = transpose S64x32x3x64x80 [0, 1, 4, 2, 3] (m ((c : Thread nD τ).loc main_arg1)) transposes_S64x32x64x80x3_S64x32x3x64x80_0_1_4_2_3 := by
    show StableHlo.after hostOps0 (fun b => m (c, b)) (Proc.devRef .tc main_v0) = _
    unfold hostOps0
    after_results
  show V m c main_v0 ((win0_1.rect t).emb (ix5 0 j k a u)) = _
  rw [h]
  rw [e]
  pointwise

theorem blk2_apply (c : Dev nD) (t : Fin cfg0.N) (k : Fin 3) (a : Fin 64) :
    (iblk m c 2 t : Vec Ideal S1x3x64 .f32) (ix3 0 k a) = m ((c : Thread nD τ).loc main_arg0) (ix3 (sceneOf t) a k) := by
  have h : (win0_2.rect t).emb (ix3 0 k a) = ix3 (sceneOf t) k a := by
    blk_ext [idx_val t, Pipeline.WinKind.off, sceneOf]
  have e : V m c main_v1 = transpose S64x3x64 [0, 2, 1] (m ((c : Thread nD τ).loc main_arg0)) transposes_S64x64x3_S64x3x64_0_2_1 := by
    show StableHlo.after hostOps0 (fun b => m (c, b)) (Proc.devRef .tc main_v1) = _
    unfold hostOps0
    after_results
  show V m c main_v1 ((win0_2.rect t).emb (ix3 0 k a)) = _
  rw [h]
  rw [e]
  pointwise

theorem traj_final (c : Dev nD) : (dats m 0 c).arrAt 3 cfg0.N = arrT (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3, blk_traj]
  have h : (win0_3.blk t).view.emb y = ix5 (sceneOf t) (y 1) (y 2) (y 3) (y 4) := by
    blk_ext [idx_val t, Pipeline.WinKind.off, sceneOf]
  rw [h]
  have e := kSel_eq _ _ _ _ _ _ (sceneOf t) (blk0_apply m c t) (blk1_apply m c t) (blk2_apply m c t) (y 3) (y 1 : Nat)
  refine (blk1_apply m c t _ _ _ _).trans ?_
  rw [e]
  rfl

theorem score_final (c : Dev nD) : (dats m 0 c).arrAt 4 cfg0.N = arrS (m ((c : Thread nD τ).loc main_arg0))
    (m ((c : Thread nD τ).loc main_arg1)) (m ((c : Thread nD τ).loc main_arg2)) := by
  refine (dats m 0 c).arrAt_eq_of_covers 4 _ (by decide +kernel) fun t _ y => ?_
  blk_simp
  rw [after0_4, blk_score]
  have h : (win0_4.blk t).view.emb y = ix3 (sceneOf t) (y 1) (y 2) := by
    blk_ext [idx_val t, Pipeline.WinKind.off, sceneOf]
  rw [h]
  have e := fun n : Nat => kSel_eq _ _ _ _ _ _ (sceneOf t) (blk0_apply m c t) (blk1_apply m c t) (blk2_apply m c t) (y 2) n
  have p := pCol_eq _ _ (sceneOf t) (blk0_apply m c t) (y 2)
  unfold blkS
  simp only [e, p]
  rfl

/-! ## The results of @main -/

variable {m}

/-- The kernel's trajectories at a scene, agent, selected mode, sample and component. -/
theorem kernel_traj (c : Dev nD) (s a : Fin 64) (j : Fin 6) (u : Fin 16) (k : Fin 3) :
    (transpose S64x64x6x16x3 [0, 3, 1, 4, 2] (Value.reg_main_v2_0 m c) transposes_S64x6x3x64x16_S64x64x6x16x3_0_3_1_4_2
      : FVec Ideal S64x64x6x16x3 .f32) (ix5 s a j u k)
      = arrT (m ((c : Thread nD τ).loc main_arg0)) (m ((c : Thread nD τ).loc main_arg1))
        (m ((c : Thread nD τ).loc main_arg2)) (ix5 s j k a u) := by
  rw [← traj_final m c]
  pointwise
  rfl

/-- The kernel's scores at a scene, agent and selected mode. -/
theorem kernel_score (c : Dev nD) (s a : Fin 64) (j : Fin 6) :
    (transpose S64x64x6 [0, 2, 1] (Value.reg_main_v2_1 m c) transposes_S64x6x64_S64x64x6_0_2_1
      : FVec Ideal S64x64x6 .f32) (ix3 s a j)
      = arrS (m ((c : Thread nD τ).loc main_arg0)) (m ((c : Thread nD τ).loc main_arg1))
        (m ((c : Thread nD τ).loc main_arg2)) (ix3 s j a) := by
  rw [← score_final m c]
  pointwise
  rfl

end ModeNms

end
-- ==== Proof.Gather.lean ====
/- Taking, for each scene and agent, the entries of one axis that an array of words names. -/
module

public import proofs.«01_k».proof.Proof.Scalars
public import Idealize.ShloMosaic.Lib.ValueIdx

@[expose] public section

set_option maxRecDepth 16384

noncomputable section

namespace ModeNms

open Idealize.ShloMosaic

variable {α : Type}

/-! ## A row of a square table: one word per scene and agent -/

/-- The dimension numbers of that row's gather. -/
abbrev rowDims (N M : Nat) (wf : GatherDims.WF ⟨4, ![64, 64, N, M]⟩ ⟨4, ![64, 64, 1, 1]⟩ ⟨4, ![64, 64, 1, M]⟩ [3] [2] [0, 1] [2] [0, 1] 3 ![1, 1, 1, M]) :
    GatherDims ⟨4, ![64, 64, N, M]⟩ ⟨4, ![64, 64, 1, 1]⟩ ⟨4, ![64, 64, 1, M]⟩ where
  offsetDims := [3]
  collapsedSliceDims := [2]
  operandBatchingDims := [0, 1]
  startIndicesBatchingDims := [0, 1]
  startIndexMap := [2]
  indexVectorDim := 3
  sliceSizes := ![1, 1, 1, M]
  wf := wf

theorem row_apply {N M : Nat} (hN : N ≤ 2 ^ 31) (wf) (x : (⟨4, ![64, 64, N, M]⟩ : Shape).Idx → α) (idx : IVec ⟨4, ![64, 64, 1, 1]⟩ 32)
    (s a : Fin 64) (u : Fin 1) (j : Fin M) (r : Fin N) (h : idx (ix4 s a 0 0) = BitVec.ofNat 32 (r : Nat)) :
    Host.gather (rowDims N M wf) x idx (ix4 s a u j) = x (ix4 s a r j) := by
  have hr : (idx (ix4 s a 0 0)).toInt.toNat = r := by
    rw [h, toInt_small (k := (r : Nat)) (by omega)]; rfl
  unfold Host.gather
  congr 1
  funext b
  refine Fin.ext ?_
  show (rowDims N M wf).start (ix4 s a u j) idx b + (rowDims N M wf).batchCoord (ix4 s a u j) b
    + (rowDims N M wf).offCoord (ix4 s a u j) b = _
  have m0 : (0 : Fin 4) ∈ ([0, 1] : List (Fin 4)) := by decide
  have m1 : (1 : Fin 4) ∈ ([0, 1] : List (Fin 4)) := by decide
  have m2 : (2 : Fin 4) ∉ ([0, 1] : List (Fin 4)) := by decide
  have m3 : (3 : Fin 4) ∉ ([0, 1] : List (Fin 4)) := by decide
  have n3 : (3 : Fin 4) ∉ ([2] : List (Fin 4)) := by decide
  have hb : b = 0 ∨ b = 1 ∨ b = 2 ∨ b = 3 := by
    match b with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hb with rfl | rfl | rfl | rfl
  · rw [GatherDims.start_batching _ _ _ _ m0, GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1, GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ m2,
      GatherDims.offCoord_eq_zero _ _ _ (fun h => ((GatherDims.mem_sKept _ _).mp h).1 (List.mem_singleton.mpr rfl))]
    simp only [Nat.add_zero]
    unfold GatherDims.start
    rw [dif_pos (show (2 : Fin 4) ∈ (rowDims N M wf).startIndexMap from List.mem_singleton.mpr rfl)]
    have hsi : ∀ q, (rowDims N M wf).siIdx (ix4 s a u j) q = ix4 s a 0 0 := by
      intro q
      funext b; refine Fin.ext ?_
      match b with
      | ⟨0, _⟩ => rfl
      | ⟨1, _⟩ => rfl
      | ⟨2, _⟩ => exact congrArg Fin.val (Subsingleton.elim (α := Fin 1) _ _)
      | ⟨3, _⟩ => exact congrArg Fin.val (Subsingleton.elim (α := Fin 1) _ _)
    rw [hsi, hr]
    show min (r : Nat) (N - 1) = r
    omega
  · rw [GatherDims.batchCoord_eq_zero _ _ _ m3]
    have h0 : (rowDims N M wf).start (ix4 s a u j) idx 3 = 0 := by
      unfold GatherDims.start
      rw [dif_neg n3]
    rw [h0]
    simp only [Nat.zero_add]
    unfold GatherDims.offCoord
    rw [dif_pos ((GatherDims.mem_sKept _ _).mpr ⟨n3, m3⟩)]
    rfl

/-! ## Whole entries of a stack: several words per scene and agent -/

/-- The dimension numbers of that gather. -/
abbrev entryDims (N J T C : Nat) (wf : GatherDims.WF ⟨5, ![64, 64, N, T, C]⟩ ⟨4, ![64, 64, J, 1]⟩ ⟨5, ![64, 64, J, T, C]⟩ [3, 4] [2] [0, 1] [2] [0, 1] 3 ![1, 1, 1, T, C]) :
    GatherDims ⟨5, ![64, 64, N, T, C]⟩ ⟨4, ![64, 64, J, 1]⟩ ⟨5, ![64, 64, J, T, C]⟩ where
  offsetDims := [3, 4]
  collapsedSliceDims := [2]
  operandBatchingDims := [0, 1]
  startIndicesBatchingDims := [0, 1]
  startIndexMap := [2]
  indexVectorDim := 3
  sliceSizes := ![1, 1, 1, T, C]
  wf := wf

theorem entry_apply {N J T C : Nat} (hN : N ≤ 2 ^ 31) (wf) (x : (⟨5, ![64, 64, N, T, C]⟩ : Shape).Idx → α) (idx : IVec ⟨4, ![64, 64, J, 1]⟩ 32)
    (s a : Fin 64) (u : Fin J) (t : Fin T) (c : Fin C) (r : Fin N) (h : idx (ix4 s a u 0) = BitVec.ofNat 32 (r : Nat)) :
    Host.gather (entryDims N J T C wf) x idx (ix5 s a u t c) = x (ix5 s a r t c) := by
  have hr : (idx (ix4 s a u 0)).toInt.toNat = r := by
    rw [h, toInt_small (k := (r : Nat)) (by omega)]; rfl
  unfold Host.gather
  congr 1
  funext b
  refine Fin.ext ?_
  show (entryDims N J T C wf).start (ix5 s a u t c) idx b + (entryDims N J T C wf).batchCoord (ix5 s a u t c) b
    + (entryDims N J T C wf).offCoord (ix5 s a u t c) b = _
  have m0 : (0 : Fin 5) ∈ ([0, 1] : List (Fin 5)) := by decide
  have m1 : (1 : Fin 5) ∈ ([0, 1] : List (Fin 5)) := by decide
  have m2 : (2 : Fin 5) ∉ ([0, 1] : List (Fin 5)) := by decide
  have m3 : (3 : Fin 5) ∉ ([0, 1] : List (Fin 5)) := by decide
  have n3 : (3 : Fin 5) ∉ ([2] : List (Fin 5)) := by decide
  have m4 : (4 : Fin 5) ∉ ([0, 1] : List (Fin 5)) := by decide
  have n4 : (4 : Fin 5) ∉ ([2] : List (Fin 5)) := by decide
  have hb : b = 0 ∨ b = 1 ∨ b = 2 ∨ b = 3 ∨ b = 4 := by
    match b with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases hb with rfl | rfl | rfl | rfl | rfl
  · rw [GatherDims.start_batching _ _ _ _ m0, GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1, GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ m2,
      GatherDims.offCoord_eq_zero _ _ _ (fun h => ((GatherDims.mem_sKept _ _).mp h).1 (List.mem_singleton.mpr rfl))]
    simp only [Nat.add_zero]
    unfold GatherDims.start
    rw [dif_pos (show (2 : Fin 5) ∈ (entryDims N J T C wf).startIndexMap from List.mem_singleton.mpr rfl)]
    have hsi : ∀ q, (entryDims N J T C wf).siIdx (ix5 s a u t c) q = ix4 s a u 0 := by
      intro q
      funext b; refine Fin.ext ?_
      match b with
      | ⟨0, _⟩ => rfl
      | ⟨1, _⟩ => rfl
      | ⟨2, _⟩ => rfl
      | ⟨3, _⟩ => exact congrArg Fin.val (Subsingleton.elim (α := Fin 1) _ _)
    rw [hsi, hr]
    show min (r : Nat) (N - 1) = r
    omega
  · rw [GatherDims.batchCoord_eq_zero _ _ _ m3]
    have h0 : (entryDims N J T C wf).start (ix5 s a u t c) idx 3 = 0 := by
      unfold GatherDims.start
      rw [dif_neg n3]
    rw [h0]
    simp only [Nat.zero_add]
    unfold GatherDims.offCoord
    rw [dif_pos ((GatherDims.mem_sKept _ _).mpr ⟨n3, m3⟩)]
    rfl
  · rw [GatherDims.batchCoord_eq_zero _ _ _ m4]
    have h0 : (entryDims N J T C wf).start (ix5 s a u t c) idx 4 = 0 := by
      unfold GatherDims.start
      rw [dif_neg n4]
    rw [h0]
    simp only [Nat.zero_add]
    unfold GatherDims.offCoord
    rw [dif_pos ((GatherDims.mem_sKept _ _).mpr ⟨n4, m4⟩)]
    rfl

/-! ## Single entries of a table: several words per scene and agent -/

/-- The dimension numbers of that gather. -/
abbrev pointDims (N J : Nat) (wf : GatherDims.WF ⟨3, ![64, 64, N]⟩ ⟨4, ![64, 64, J, 1]⟩ ⟨3, ![64, 64, J]⟩ [] [2] [0, 1] [2] [0, 1] 3 ![1, 1, 1]) :
    GatherDims ⟨3, ![64, 64, N]⟩ ⟨4, ![64, 64, J, 1]⟩ ⟨3, ![64, 64, J]⟩ where
  offsetDims := []
  collapsedSliceDims := [2]
  operandBatchingDims := [0, 1]
  startIndicesBatchingDims := [0, 1]
  startIndexMap := [2]
  indexVectorDim := 3
  sliceSizes := ![1, 1, 1]
  wf := wf

theorem point_apply {N J : Nat} (hN : N ≤ 2 ^ 31) (wf) (x : (⟨3, ![64, 64, N]⟩ : Shape).Idx → α) (idx : IVec ⟨4, ![64, 64, J, 1]⟩ 32)
    (s a : Fin 64) (u : Fin J) (r : Fin N) (h : idx (ix4 s a u 0) = BitVec.ofNat 32 (r : Nat)) :
    Host.gather (pointDims N J wf) x idx (ix3 s a u) = x (ix3 s a r) := by
  have hr : (idx (ix4 s a u 0)).toInt.toNat = r := by
    rw [h, toInt_small (k := (r : Nat)) (by omega)]; rfl
  unfold Host.gather
  congr 1
  funext b
  refine Fin.ext ?_
  show (pointDims N J wf).start (ix3 s a u) idx b + (pointDims N J wf).batchCoord (ix3 s a u) b
    + (pointDims N J wf).offCoord (ix3 s a u) b = _
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  have hb : b = 0 ∨ b = 1 ∨ b = 2 := by
    match b with
    | ⟨0, _⟩ => exact Or.inl rfl
    | ⟨1, _⟩ => exact Or.inr (Or.inl rfl)
    | ⟨2, _⟩ => exact Or.inr (Or.inr rfl)
  rcases hb with rfl | rfl | rfl
  · rw [GatherDims.start_batching _ _ _ _ m0, GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1, GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ m2,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (pointDims N J wf).startIndexMap from List.mem_singleton.mpr rfl)]
    have hsi : ∀ q, (pointDims N J wf).siIdx (ix3 s a u) q = ix4 s a u 0 := by
      intro q
      funext b; refine Fin.ext ?_
      match b with
      | ⟨0, _⟩ => rfl
      | ⟨1, _⟩ => rfl
      | ⟨2, _⟩ => rfl
      | ⟨3, _⟩ => exact congrArg Fin.val (Subsingleton.elim (α := Fin 1) _ _)
    rw [hsi, hr]
    show min (r : Nat) (N - 1) = r
    omega

end ModeNms

end
-- ==== Proof.Order.lean ====
/- The two orderings the reference takes: the largest entry of a line, and a line's positions in sorted order. -/
module

public import proofs.«01_k».proof.Proof.Spec
public import proofs.«01_k».proof.Proof.Scalars
public import Idealize.ShloMosaic.Lib.ValueIdx

@[expose] public section

set_option maxRecDepth 16384

noncomputable section

namespace ModeNms

open Idealize.ShloMosaic

theorem along3 {A B N : Nat} (s : Fin A) (a : Fin B) (k k' : Fin N) :
    Shape.Idx.along (s := ⟨3, ![A, B, N]⟩) (ix3 s a k) 2 k' = ix3 s a k' := by
  funext b
  match b with
  | ⟨0, _⟩ => rfl
  | ⟨1, _⟩ => rfl
  | ⟨2, _⟩ => rfl

theorem sort2_snd {A B N : Nat} {α β : Type} (cmp : α × β → α × β → BitVec 1)
    (x : (⟨3, ![A, B, N]⟩ : Shape).Idx → α) (y : (⟨3, ![A, B, N]⟩ : Shape).Idx → β) (s : Fin A) (a : Fin B) (t : Fin N) :
    (Host.sort2 ⟨3, ![A, B, N]⟩ 2 cmp x y).2 (ix3 s a t)
      = y (ix3 s a (sortedFrom (fun k k' => cmp (x (ix3 s a k), y (ix3 s a k)) (x (ix3 s a k'), y (ix3 s a k')) == 1#1) t)) := by
  have h2 : 2 < (⟨3, ![A, B, N]⟩ : Shape).rank := Nat.lt_succ_self 2
  have e : ∀ k : Fin N, Shape.Idx.along (s := ⟨3, ![A, B, N]⟩) (ix3 s a t) ⟨2, h2⟩ k = ix3 s a k := along3 s a t
  have e' : (Host.sort2 ⟨3, ![A, B, N]⟩ 2 cmp x y).2 (ix3 s a t)
      = y (Shape.Idx.along (s := ⟨3, ![A, B, N]⟩) (ix3 s a t) ⟨2, h2⟩ (sortedFrom (fun k k' : Fin N =>
        cmp (x (Shape.Idx.along (s := ⟨3, ![A, B, N]⟩) (ix3 s a t) ⟨2, h2⟩ k), y (Shape.Idx.along (s := ⟨3, ![A, B, N]⟩) (ix3 s a t) ⟨2, h2⟩ k))
          (x (Shape.Idx.along (s := ⟨3, ![A, B, N]⟩) (ix3 s a t) ⟨2, h2⟩ k'), y (Shape.Idx.along (s := ⟨3, ![A, B, N]⟩) (ix3 s a t) ⟨2, h2⟩ k')) == 1#1) t)) := by
    unfold Host.sort2
    rw [dif_pos h2]
    rfl
  rw [e']
  simp only [e]
  exact congrArg y (e _)

/-- Every position a sort of a line reports is a position of that line. -/
theorem sort_position {A B N : Nat} {α : Type} (cmp : α × BitVec 32 → α × BitVec 32 → BitVec 1)
    (x : (⟨3, ![A, B, N]⟩ : Shape).Idx → α) (s : Fin A) (a : Fin B) (t : Fin N) :
    ∃ k : Fin N, (Host.sort2 ⟨3, ![A, B, N]⟩ 2 cmp x (iotaInDim ⟨3, ![A, B, N]⟩ 32 2)).2 (ix3 s a t) = BitVec.ofNat 32 (k : Nat) :=
  ⟨_, sort2_snd cmp x _ s a t⟩

/-- The first position a line sorted downwards reports. -/
theorem topK_first {A B N : Nat} {α : Type} (gt : α → α → BitVec 1) (x : (⟨3, ![A, B, N]⟩ : Shape).Idx → α) (h)
    (s : Fin A) (a : Fin B) (u : Fin 1) (hN : 0 < N) :
    (Host.topK ⟨3, ![A, B, 1]⟩ 2 gt x h).2 (ix3 s a u)
      = BitVec.ofNat 32 (sortedFrom (fun k k' : Fin N => gt (x (ix3 s a k)) (x (ix3 s a k')) == 1#1) ⟨0, hN⟩ : Nat) := by
  have hi : (fun b => ⟨0 + (ix3 s a u (b.cast h.1.symm)).val, Nat.lt_of_lt_of_le (Nat.add_lt_add_left (ix3 s a u _).isLt _) (h.2 b)⟩ :
      (⟨3, ![A, B, N]⟩ : Shape).Idx) = ix3 s a ⟨0, hN⟩ := by
    funext b
    match b with
    | ⟨0, _⟩ => exact Fin.ext (Nat.zero_add _)
    | ⟨1, _⟩ => exact Fin.ext (Nat.zero_add _)
    | ⟨2, _⟩ => exact Fin.ext ((Nat.zero_add _).trans (congrArg Fin.val (Subsingleton.elim (α := Fin 1) u 0)))
  unfold Host.topK extractStridedSlice
  simp only []
  refine (congrArg (Host.sort2 ⟨3, ![A, B, N]⟩ 2 (fun l r => gt l.1 r.1) x _).2 hi).trans ?_
  rw [sort2_snd]
  rfl

theorem topK_apply (x : FVec Ideal ⟨3, ![64, 64, 32]⟩ .f32) (h) (s a : Fin 64) (u : Fin 1) :
    (Host.topK ⟨3, ![64, 64, 1]⟩ 2 (FloatOps.cmpfTotal .gt) x h).2 (ix3 s a u) = BitVec.ofNat 32 (pick fun j => x (ix3 s a j) : Nat) := by
  have hp : IsPick (fun j => x (ix3 s a j)) (sortedFrom (fun k k' : Fin 32 => FloatOps.cmpfTotal .gt (x (ix3 s a k)) (x (ix3 s a k')) == 1#1) 0) := by
    refine sortedFrom_zero_isPick _ _ fun k k' => ?_
    rw [Ideal.cmpfTotal_def, beq_iff_eq]
    show BitVec.ofBool (decide (x (ix3 s a k') < x (ix3 s a k))) = 1#1 ↔ _
    by_cases hlt : x (ix3 s a k') < x (ix3 s a k)
    · simp [hlt]
    · simp [hlt]
  rw [hp.pick_eq]
  exact topK_first _ x h s a u (by decide)

end ModeNms

end
-- ==== Proof.RefSteps.lean ====
/- One step of the reference's mode selection, read at a scene, an agent and a mode. -/
module

public import proofs.«01_k».proof.Proof.Gen.ReferenceIdeal
public import proofs.«01_k».proof.Proof.Gather
public import proofs.«01_k».proof.Proof.Order
public import Idealize.ShloMosaic.Lib.ValueIdx

@[expose] public section

set_option maxRecDepth 16384

noncomputable section

namespace ModeNms.Ref

open Idealize.ShloMosaic Cert.ReferenceIdeal Cert.ReferenceIdeal.Gen

/-! ## The row of the table a word names -/

/-- The words, spread over two axes of length one. -/
def spread (idx : IVec S64x64 32) : IVec S64x64x1x1 32 := broadcastInDim S64x64x1x1 ![0, 1] bcast_S64x64_S64x64x1x1_0_1 idx
/-- The words, counted from the end when negative. -/
def wrapped (idx : IVec S64x64 32) : IVec S64x64x1x1 32 :=
  select (cmpi .slt (spread idx) (broadcastInDim S64x64x1x1 ![] bcast_S_S64x64x1x1 (constantI S_ 32 0#32))) (addi (spread idx) (broadcastInDim S64x64x1x1 ![] bcast_S_S64x64x1x1 (constantI S_ 32 32#32))) (spread idx)
/-- Whether the words name an entry. -/
def inRange (w : IVec S64x64x1x1 32) : IVec S64x64x1 1 :=
  Host.reduce IntOp.andi (andi (cmpi .sge w (broadcastInDim S64x64x1x1 ![] bcast_S_S64x64x1x1 (constantI S_ 32 0#32))) (cmpi .sle w (broadcastInDim S64x64x1x1 ![0, 1, 2, 3] bcast_S1x1x1x1_S64x64x1x1_0_1_2_3 (broadcastInDim S1x1x1x1 ![3] bcast_S1_S1x1x1x1_3 (constantI S1 32 31#32))))) (constantI S_ 1 1#1) reducesTo_S64x64x1x1_S64x64x1_d3 h_S_
/-- The closeness of every mode to the named one. -/
def rowOf (near : IVec S64x64x32x32 1) (idx : IVec S64x64 32) : IVec S64x64x32 1 :=
  shapeCast _ (select (broadcastInDim S64x64x1x32 ![0, 1, 2] bcast_S64x64x1_S64x64x1x32_0_1_2 (inRange (wrapped idx))) (Host.gather gather_S64x64x32x32_S64x64x1x1_S64x64x1x32_3_2_01_01_2_3_11132 near (wrapped idx)) (broadcastInDim S64x64x1x32 ![] bcast_S_S64x64x1x32 (constantI S_ 1 1#1))) shapeCasts_S64x64x1x32_S64x64x32

theorem not_neg : ∀ r : Fin 32, IntOp.cmpi .slt (BitVec.ofNat 32 (r : Nat)) 0#32 = 0#1 := by decide
theorem in_bounds : ∀ r : Fin 32, IntOp.andi (IntOp.cmpi .sge (BitVec.ofNat 32 (r : Nat)) 0#32)
    (IntOp.cmpi .sle (BitVec.ofNat 32 (r : Nat)) 31#32) = 1#1 := by decide
theorem fold_andi : Finset.univ.fold IntOp.andi (1#1) (fun _ : Fin 1 => 1#1) = 1#1 := by decide

theorem wrapped_apply (idx : IVec S64x64 32) (s a : Fin 64) (r : Fin 32) (h : idx (ix2 s a) = BitVec.ofNat 32 (r : Nat)) (u v : Fin 1) :
    wrapped idx (ix4 s a u v) = BitVec.ofNat 32 (r : Nat) := by
  pointwise [wrapped, spread, h]
  rw [not_neg]
  rfl

theorem inRange_apply (w : IVec S64x64x1x1 32) (s a : Fin 64) (r : Fin 32) (h : ∀ u v, w (ix4 s a u v) = BitVec.ofNat 32 (r : Nat)) (u : Fin 1) :
    inRange w (ix3 s a u) = 1#1 := by
  pointwise [inRange, h]
  rw [in_bounds]
  exact fold_andi

theorem rowOf_apply (near : IVec S64x64x32x32 1) (idx : IVec S64x64 32) (s a : Fin 64) (r : Fin 32)
    (h : idx (ix2 s a) = BitVec.ofNat 32 (r : Nat)) (j : Fin 32) : rowOf near idx (ix3 s a j) = near (ix4 s a r j) := by
  have hg : Host.gather gather_S64x64x32x32_S64x64x1x1_S64x64x1x32_3_2_01_01_2_3_11132 near (wrapped idx) (ix4 s a 0 j) = near (ix4 s a r j) :=
    row_apply (by decide) _ near (wrapped idx) s a 0 j r (wrapped_apply idx s a r h 0 0)
  have hi := inRange_apply (wrapped idx) s a r (wrapped_apply idx s a r h)
  pointwise [rowOf, hi, hg]

/-! ## One step -/

/-- The positions of the largest scores, the lowest among equals. -/
def idxOf (sc : FVec Ideal S64x64x32 .f32) : IVec S64x64 32 :=
  shapeCast _ ((Host.topK S64x64x1 2 (FloatOps.cmpfTotal .gt) sc sliceFits_S64x64x32_S64x64x1).2) shapeCasts_S64x64x1_S64x64

/-- The scores after a step: a hundredth of the score at the modes near the picked one. -/
def stepR (near : IVec S64x64x32x32 1) (sc : FVec Ideal S64x64x32 .f32) (idx : IVec S64x64 32) : FVec Ideal S64x64x32 .f32 :=
  select (cmpi .eq (broadcastInDim S64x64x32 ![0, 1, 2] bcast_S64x64x1_S64x64x32_0_1_2 (broadcastInDim S64x64x1 ![0, 1] bcast_S64x64_S64x64x1_0_1 idx)) (broadcastInDim S64x64x32 ![0, 1, 2] bcast_S1x1x32_S64x64x32_0_1_2 (iotaInDim S1x1x32 32 2))) (broadcastInDim S64x64x32 ![] bcast_S_S64x64x32 (id (constant S_ .f32 0xBF800000#32))) (mulf sc (Host.divf (addf (mulf (uitofp .f32 (noti (rowOf near idx))) (broadcastInDim S64x64x32 ![] bcast_S_S64x64x32 (constant S_ .f32 0x42C60000#32))) (broadcastInDim S64x64x32 ![] bcast_S_S64x64x32 (constant S_ .f32 0x3F800000#32))) (broadcastInDim S64x64x32 ![] bcast_S_S64x64x32 (constant S_ .f32 0x42C80000#32))))

/-- The same step as the mask takes it. -/
def stepM (near : IVec S64x64x32x32 1) (sc : FVec Ideal S64x64x32 .f32) (idx : IVec S64x64 32) : FVec Ideal S64x64x32 .f32 :=
  select (cmpi .eq (broadcastInDim S64x64x32 ![0, 1, 2] bcast_S64x64x1_S64x64x32_0_1_2 (broadcastInDim S64x64x1 ![0, 1] bcast_S64x64_S64x64x1_0_1 idx)) (broadcastInDim S64x64x32 ![0, 1, 2] bcast_S1x1x32_S64x64x32_0_1_2 (iotaInDim S1x1x32 32 2))) (broadcastInDim S64x64x32 ![] bcast_S_S64x64x32 (id (constant S_ .f32 0xBF800000#32))) (select (rowOf near idx) (Host.divf sc (broadcastInDim S64x64x32 ![] bcast_S_S64x64x32 (constant S_ .f32 0x42C80000#32))) sc)

theorem minus_one : Ideal.ofBits .f32 0xBF800000#32 = (-1 : EReal) := IdealRules.sign_bit.ideal_negOnePat .f32
theorem hundred : Ideal.ofBits .f32 0x42C80000#32 = ((100 : ℝ) : EReal) := by
  simp [Ideal.ofBits, Ideal.ieee]
  norm_num
  rw [← EReal.coe_mul]
  norm_num
theorem ninety_nine : Ideal.ofBits .f32 0x42C60000#32 = ((99 : ℝ) : EReal) := by
  simp [Ideal.ofBits, Ideal.ieee]
  norm_num
  rw [← EReal.coe_mul]
  norm_num

theorem div_hundred (x : EReal) : Ideal.div x ((100 : ℝ) : EReal) = x * ((1 / 100 : ℝ) : EReal) := by
  have h : ((100 : ℝ) : EReal) ≠ 0 := by exact_mod_cast (by norm_num : (100 : ℝ) ≠ 0)
  unfold Ideal.div
  rw [if_neg h, ← EReal.coe_inv]
  norm_num

/-- The factor of a step, at a near mode and at any other. -/
theorem factor (b : BitVec 1) : Ideal.div (FloatOps.uitofp (F := Ideal) .f32 (~~~b) * ((99 : ℝ) : EReal) + 1) ((100 : ℝ) : EReal)
    = if b = 1#1 then ((1 / 100 : ℝ) : EReal) else 1 := by
  have h : ∀ b : BitVec 1, b = 0#1 ∨ b = 1#1 := by decide
  rw [div_hundred]
  rcases h b with rfl | rfl
  · have : FloatOps.uitofp (F := Ideal) .f32 (~~~(0#1)) = ((1 : ℝ) : EReal) := by
      show (((~~~(0#1)).toNat : ℝ) : EReal) = _
      norm_num
    rw [this, if_neg (by decide), ← EReal.coe_one, ← EReal.coe_mul, ← EReal.coe_add, ← EReal.coe_mul]
    norm_num
  · have : FloatOps.uitofp (F := Ideal) .f32 (~~~(1#1)) = ((0 : ℝ) : EReal) := by
      show (((~~~(1#1)).toNat : ℝ) : EReal) = _
      norm_num
    rw [this, if_pos rfl, ← EReal.coe_one, ← EReal.coe_mul, ← EReal.coe_add, ← EReal.coe_mul]
    norm_num

theorem idxOf_apply (sc : FVec Ideal S64x64x32 .f32) (s a : Fin 64) :
    idxOf sc (ix2 s a) = BitVec.ofNat 32 (pick fun j => sc (ix3 s a j) : Nat) := by
  have h := topK_apply sc sliceFits_S64x64x32_S64x64x1 s a
  pointwise [idxOf, h]

theorem stepR_apply (near : IVec S64x64x32x32 1) (sc : FVec Ideal S64x64x32 .f32) (idx : IVec S64x64 32) (s a : Fin 64) (r : Fin 32)
    (h : idx (ix2 s a) = BitVec.ofNat 32 (r : Nat)) (j : Fin 32) :
    stepR near sc idx (ix3 s a j) = down (fun i j => near (ix4 s a i j)) (fun j => sc (ix3 s a j)) r j := by
  have hr := rowOf_apply near idx s a r h
  pointwise [stepR, hr, h]
  rw [cmpi_ofNat (by decide), select_if, hundred, ninety_nine, factor]
  show (if r = j then Ideal.ofBits .f32 0xBF800000#32 else _) = _
  rw [minus_one]
  unfold down
  by_cases hj : r = j
  · rw [if_pos hj, if_pos hj.symm]
  · rw [if_neg hj, if_neg (Ne.symm hj)]
    by_cases hn : near (ix4 s a r j) = 1#1
    · rw [if_pos hn, if_pos hn]
    · rw [if_neg hn, if_neg hn, mul_one]

theorem stepM_apply (near : IVec S64x64x32x32 1) (sc : FVec Ideal S64x64x32 .f32) (idx : IVec S64x64 32) (s a : Fin 64) (r : Fin 32)
    (h : idx (ix2 s a) = BitVec.ofNat 32 (r : Nat)) (j : Fin 32) :
    stepM near sc idx (ix3 s a j) = down (fun i j => near (ix4 s a i j)) (fun j => sc (ix3 s a j)) r j := by
  have hr := rowOf_apply near idx s a r h
  pointwise [stepM, hr, h]
  rw [cmpi_ofNat (by decide), select_if, hundred, div_hundred]
  show (if r = j then Ideal.ofBits .f32 0xBF800000#32 else _) = _
  rw [minus_one]
  unfold down
  by_cases hj : r = j
  · rw [if_pos hj, if_pos hj.symm]
  · rw [if_neg hj, if_neg (Ne.symm hj)]
    have h1 : ∀ b : BitVec 1, b = 0#1 ∨ b = 1#1 := by decide
    show Scalar.select _ _ _ = if near (ix4 s a r j) = 1#1 then _ else _
    rcases h1 (near (ix4 s a r j)) with hn | hn
    · rw [hn]; rfl
    · rw [hn]; rfl

end ModeNms.Ref

end
-- ==== Proof.RefHead.lean ====
/- What the reference computes before its second pass: the probabilities, the closeness, the picked modes and the entries
   taken at them. -/
module

public import proofs.«01_k».proof.Proof.RefSteps
public import proofs.«01_k».proof.Proof.KernelArray

@[expose] public section

set_option maxRecDepth 16384

noncomputable section

namespace ModeNms.Ref

open Idealize.ShloMosaic Cert.ReferenceIdeal Cert.ReferenceIdeal.Gen

/-! ## The six steps -/

section Chain

variable (near : IVec S64x64x32x32 1) (p : FVec Ideal S64x64x32 .f32)

/-- The reference's scores before step `t`. -/
def scR : Nat → FVec Ideal S64x64x32 .f32
  | 0 => p
  | t + 1 => stepR near (scR t) (idxOf (scR t))

/-- The mask's scores before step `t`. -/
def scM : Nat → FVec Ideal S64x64x32 .f32
  | 0 => p
  | t + 1 => stepM near (scM t) (idxOf (scM t))

/-- The mode step `t` picks for agent `a` of scene `s`. -/
def selV (s a : Fin 64) (t : Nat) : Fin 32 := sel (fun i j => near (ix4 s a i j)) (fun j => p (ix3 s a j)) t

theorem scR_apply (s a : Fin 64) (t : Nat) : ∀ j : Fin 32, scR near p t (ix3 s a j)
    = scoreAt (fun i j => near (ix4 s a i j)) (fun j => p (ix3 s a j)) t j := by
  induction t with
  | zero => exact fun _ => rfl
  | succ t ih =>
    intro j
    refine (stepR_apply near (scR near p t) _ s a _ (idxOf_apply (scR near p t) s a) j).trans ?_
    simp only [ih]
    rfl

theorem scM_apply (s a : Fin 64) (t : Nat) : ∀ j : Fin 32, scM near p t (ix3 s a j)
    = scoreAt (fun i j => near (ix4 s a i j)) (fun j => p (ix3 s a j)) t j := by
  induction t with
  | zero => exact fun _ => rfl
  | succ t ih =>
    intro j
    refine (stepM_apply near (scM near p t) _ s a _ (idxOf_apply (scM near p t) s a) j).trans ?_
    simp only [ih]
    rfl

theorem scM_eq (t : Nat) : scM near p t = scR near p t := by
  funext i
  rw [eq_ix3 i]
  exact (scM_apply near p (i 0) (i 1) t (i 2)).trans (scR_apply near p (i 0) (i 1) t (i 2)).symm

theorem idxR_apply (s a : Fin 64) (t : Nat) : idxOf (scR near p t) (ix2 s a) = BitVec.ofNat 32 (selV near p s a t : Nat) := by
  rw [idxOf_apply]
  simp only [scR_apply]
  rfl

end Chain

/-- Six arrays of words, side by side. -/
def cat (i0 i1 i2 i3 i4 i5 : IVec S64x64 32) : IVec S64x64x6 32 :=
  concatenate S64x64x6 2 [⟨S64x64x1, broadcastInDim S64x64x1 ![0, 1] bcast_S64x64_S64x64x1_0_1 i0⟩, ⟨S64x64x1, broadcastInDim S64x64x1 ![0, 1] bcast_S64x64_S64x64x1_0_1 i1⟩, ⟨S64x64x1, broadcastInDim S64x64x1 ![0, 1] bcast_S64x64_S64x64x1_0_1 i2⟩, ⟨S64x64x1, broadcastInDim S64x64x1 ![0, 1] bcast_S64x64_S64x64x1_0_1 i3⟩, ⟨S64x64x1, broadcastInDim S64x64x1 ![0, 1] bcast_S64x64_S64x64x1_0_1 i4⟩, ⟨S64x64x1, broadcastInDim S64x64x1 ![0, 1] bcast_S64x64_S64x64x1_0_1 i5⟩] concatenates_S64x64x1_S64x64x1_S64x64x1_S64x64x1_S64x64x1_S64x64x1_S64x64x6_d2

theorem cat_apply (i : Nat → IVec S64x64 32) (s a : Fin 64) (t : Fin 6) :
    cat (i 0) (i 1) (i 2) (i 3) (i 4) (i 5) (ix3 s a t) = i t (ix2 s a) := by
  fin_cases t <;> pointwise [cat]

/-! ## The probabilities and the closeness -/

/-- The shifted exponentials of the scores. -/
def expV (A2 : FVec Ideal S64x32x64 .f32) : FVec Ideal S64x64x32 .f32 :=
  Host.exp (subf (transpose S64x64x32 [0, 2, 1] A2 transposes_S64x32x64_S64x64x32_0_2_1) (broadcastInDim S64x64x32 ![0, 1, 2] bcast_S64x64x1_S64x64x32_0_1_2 (broadcastInDim S64x64x1 ![0, 1] bcast_S64x64_S64x64x1_0_1 (maximumf (broadcastInDim S64x64 ![] bcast_S_S64x64 (constant S_ .f32 0xFF800000#32)) (Host.reduce FloatOps.maximumf (transpose S64x64x32 [0, 2, 1] A2 transposes_S64x32x64_S64x64x32_0_2_1) (constant S_ .f32 0xFF800000#32) reducesTo_S64x64x32_S64x64_d2 h_S_)))))
/-- The probabilities. -/
def pV (A2 : FVec Ideal S64x32x64 .f32) : FVec Ideal S64x64x32 .f32 :=
  Host.divf (expV A2) (broadcastInDim S64x64x32 ![0, 1, 2] bcast_S64x64x1_S64x64x32_0_1_2 (broadcastInDim S64x64x1 ![0, 1] bcast_S64x64_S64x64x1_0_1 (Host.reduceAdd (expV A2) (constant S_ .f32 0x00000000#32) reducesTo_S64x64x32_S64x64_d2 h_S_)))

theorem expV_apply (A2 : FVec Ideal S64x32x64 .f32) (s a : Fin 64) (j : Fin 32) :
    expV A2 (ix3 s a j) = Ideal.exp (A2 (ix3 s j a) - Finset.univ.fold max ⊥ fun j => A2 (ix3 s j a)) := by
  pointwise [expV]
  rw [negInf, max_eq_right bot_le]

theorem pV_apply (A2 : FVec Ideal S64x32x64 .f32) (s a : Fin 64) (j : Fin 32) : pV A2 (ix3 s a j) = pAt A2 s a j := by
  have h := expV_apply A2 s a
  pointwise [pV, h]
  rfl

/-- The trajectories, agents before modes. -/
def trV (A1 : FVec Ideal S64x32x64x80x3 .f32) : FVec Ideal S64x64x32x80x3 .f32 :=
  transpose S64x64x32x80x3 [0, 2, 1, 3, 4] A1 transposes_S64x32x64x80x3_S64x64x32x80x3_0_2_1_3_4
/-- The end points. -/
def endV (A1 : FVec Ideal S64x32x64x80x3 .f32) : FVec Ideal S64x64x32x2 .f32 :=
  shapeCast _ (extractStridedSlice S64x64x32x1x2 ![0, 0, 0, 79, 0] (trV A1) slices_S64x64x32x80x3_S64x64x32x1x2_0_0_0_79_0) shapeCasts_S64x64x32x1x2_S64x64x32x2
/-- Their differences. -/
def diffV (e : FVec Ideal S64x64x32x2 .f32) : FVec Ideal S64x64x32x32x2 .f32 :=
  subf (broadcastInDim S64x64x32x32x2 ![0, 1, 2, 3, 4] bcast_S64x64x32x1x2_S64x64x32x32x2_0_1_2_3_4 (broadcastInDim S64x64x32x1x2 ![0, 1, 2, 4] bcast_S64x64x32x2_S64x64x32x1x2_0_1_2_4 e)) (broadcastInDim S64x64x32x32x2 ![0, 1, 2, 3, 4] bcast_S64x64x1x32x2_S64x64x32x32x2_0_1_2_3_4 (broadcastInDim S64x64x1x32x2 ![0, 1, 3, 4] bcast_S64x64x32x2_S64x64x1x32x2_0_1_3_4 e))
/-- Each agent's threshold. -/
def thrV (A0 : FVec Ideal S64x64x3 .f32) (l : Fin 3 → BitVec 32) : FVec Ideal S64x64 .f32 :=
  Host.dotGeneral dot_S64x64x3_S3_S64x64_2_0_01_n_n_n none A0 (fun i => FloatOps.ofBits .f32 (l (S3.rowMajor i)))
/-- Which modes are near which. -/
def nearV (A0 : FVec Ideal S64x64x3 .f32) (A1 : FVec Ideal S64x32x64x80x3 .f32) : IVec S64x64x32x32 1 :=
  cmpf .olt (Host.sqrt (Host.reduceAdd (mulf (diffV (endV A1)) (diffV (endV A1))) (constant S_ .f32 0x00000000#32) reducesTo_S64x64x32x32x2_S64x64x32x32_d4 h_S_)) (broadcastInDim S64x64x32x32 ![0, 1, 2, 3] bcast_S64x64x1x1_S64x64x32x32_0_1_2_3 (broadcastInDim S64x64x1x1 ![0, 1] bcast_S64x64_S64x64x1x1_0_1 (thrV A0 lit0)))

theorem thrV_apply (A0 : FVec Ideal S64x64x3 .f32) (s a : Fin 64) : thrV A0 lit0 (ix2 s a) = thr3 fun k => A0 (ix3 s a k) := by
  pointwise [thrV]
  have e0 : lit0 (S3.rowMajor (ix1 0)) = 0x40200000#32 := by rfl
  have e1 : lit0 (S3.rowMajor (ix1 1)) = 0x3F800000#32 := by rfl
  have e2 : lit0 (S3.rowMajor (ix1 2)) = 0x40000000#32 := by rfl
  have o : Ideal.ofBits .f32 0x3F800000#32 = (1 : EReal) := by
    simp [Ideal.ofBits, Ideal.ieee]
    rw [← EReal.coe_mul]
    norm_num
  rw [Fin.sum_univ_three, e0, e1, e2, o, mul_one, mul_comm, mul_comm (A0 (ix3 s a 2))]
  rfl

theorem endV_apply (A1 : FVec Ideal S64x32x64x80x3 .f32) (s a : Fin 64) (j : Fin 32) (k : Fin 2) :
    endV A1 (ix4 s a j k) = A1 (ix5 s j a 79 (Fin.castSucc k)) := by
  pointwise [endV, trV]
  rfl

theorem nearV_apply (A0 : FVec Ideal S64x64x3 .f32) (A1 : FVec Ideal S64x32x64x80x3 .f32) (s a : Fin 64) (i j : Fin 32) :
    nearV A0 A1 (ix4 s a i j) = nearAt A0 A1 s a i j := by
  have ht := thrV_apply A0
  have he := endV_apply A1
  pointwise [nearV, diffV, ht, he]
  rw [Fin.sum_univ_two]
  unfold nearAt nearB
  show BitVec.ofBool (decide (_ < _)) = if _ < _ then _ else _
  by_cases hlt : Ideal.sqrt ((A1 (ix5 s i a 79 0) - A1 (ix5 s j a 79 0)) * (A1 (ix5 s i a 79 0) - A1 (ix5 s j a 79 0))
    + (A1 (ix5 s i a 79 1) - A1 (ix5 s j a 79 1)) * (A1 (ix5 s i a 79 1) - A1 (ix5 s j a 79 1))) < thr3 fun k => A0 (ix3 s a k)
  · rw [if_pos hlt]; exact congrArg BitVec.ofBool (decide_eq_true hlt)
  · rw [if_neg hlt]; exact congrArg BitVec.ofBool (decide_eq_false hlt)

end ModeNms.Ref

end
-- ==== Proof.RefTail.lean ====
/- What the reference computes from the picked modes on: the entries taken at them, the second pass over them, the scores. -/
module

public import proofs.«01_k».proof.Proof.RefHead

@[expose] public section

set_option maxRecDepth 16384

noncomputable section

namespace ModeNms.Ref

open Idealize.ShloMosaic Cert.ReferenceIdeal Cert.ReferenceIdeal.Gen

/-! ## The entries at the picked modes -/

/-- The words of the picked modes, counted from the end when negative, for the trajectories. -/
def wrapT (idx : IVec S64x64x6 32) : IVec S64x64x6x1 32 :=
  shapeCast _ (select (cmpi .slt (broadcastInDim S64x64x6x1x1 ![0, 1, 2] bcast_S64x64x6_S64x64x6x1x1_0_1_2 idx) (broadcastInDim S64x64x6x1x1 ![] bcast_S_S64x64x6x1x1 (constantI S_ 32 0#32))) (addi (broadcastInDim S64x64x6x1x1 ![0, 1, 2] bcast_S64x64x6_S64x64x6x1x1_0_1_2 idx) (broadcastInDim S64x64x6x1x1 ![] bcast_S_S64x64x6x1x1 (constantI S_ 32 32#32))) (broadcastInDim S64x64x6x1x1 ![0, 1, 2] bcast_S64x64x6_S64x64x6x1x1_0_1_2 idx)) shapeCasts_S64x64x6x1x1_S64x64x6x1
/-- The same for the probabilities. -/
def wrapP (idx : IVec S64x64x6 32) : IVec S64x64x6x1 32 :=
  shapeCast _ (select (cmpi .slt idx (broadcastInDim S64x64x6 ![] bcast_S_S64x64x6 (constantI S_ 32 0#32))) (addi idx (broadcastInDim S64x64x6 ![] bcast_S_S64x64x6 (constantI S_ 32 32#32))) idx) shapeCasts_S64x64x6_S64x64x6x1
/-- Whether they name an entry. -/
def inRange6 (w : IVec S64x64x6x1 32) : IVec S64x64x6 1 :=
  Host.reduce IntOp.andi (andi (cmpi .sge w (broadcastInDim S64x64x6x1 ![] bcast_S_S64x64x6x1 (constantI S_ 32 0#32))) (cmpi .sle w (broadcastInDim S64x64x6x1 ![0, 1, 2, 3] bcast_S1x1x1x1_S64x64x6x1_0_1_2_3 (broadcastInDim S1x1x1x1 ![3] bcast_S1_S1x1x1x1_3 (constantI S1 32 31#32))))) (constantI S_ 1 1#1) reducesTo_S64x64x6x1_S64x64x6_d3 h_S_
/-- The trajectories of the picked modes. -/
def takeT (tr : FVec Ideal S64x64x32x80x3 .f32) (idx : IVec S64x64x6 32) : FVec Ideal S64x64x6x80x3 .f32 :=
  select (broadcastInDim S64x64x6x80x3 ![0, 1, 2] bcast_S64x64x6_S64x64x6x80x3_0_1_2 (inRange6 (wrapT idx))) (Host.gather gather_S64x64x32x80x3_S64x64x6x1_S64x64x6x80x3_34_2_01_01_2_3_111803 tr (wrapT idx)) (broadcastInDim S64x64x6x80x3 ![] bcast_S_S64x64x6x80x3 (constant S_ .f32 0x7FC00000#32))
/-- The probabilities of the picked modes. -/
def takeP (p : FVec Ideal S64x64x32 .f32) (idx : IVec S64x64x6 32) : FVec Ideal S64x64x6 .f32 :=
  select (inRange6 (wrapP idx)) (Host.gather gather_S64x64x32_S64x64x6x1_S64x64x6_n_2_01_01_2_3_111 p (wrapP idx)) (broadcastInDim S64x64x6 ![] bcast_S_S64x64x6 (constant S_ .f32 0x7FC00000#32))

section Takes

variable (idx : IVec S64x64x6 32) (s a : Fin 64) (t : Fin 6) (r : Fin 32) (h : idx (ix3 s a t) = BitVec.ofNat 32 (r : Nat))
include h

theorem wrapT_apply (v : Fin 1) : wrapT idx (ix4 s a t v) = BitVec.ofNat 32 (r : Nat) := by
  pointwise [wrapT, h]
  rw [not_neg]
  rfl

theorem wrapP_apply (v : Fin 1) : wrapP idx (ix4 s a t v) = BitVec.ofNat 32 (r : Nat) := by
  pointwise [wrapP, h]
  rw [not_neg]
  rfl

omit h in
theorem inRange6_apply (w : IVec S64x64x6x1 32) (h : ∀ v, w (ix4 s a t v) = BitVec.ofNat 32 (r : Nat)) : inRange6 w (ix3 s a t) = 1#1 := by
  pointwise [inRange6, h]
  rw [in_bounds]
  exact fold_andi

theorem takeT_apply (tr : FVec Ideal S64x64x32x80x3 .f32) (u : Fin 80) (c : Fin 3) : takeT tr idx (ix5 s a t u c) = tr (ix5 s a r u c) := by
  have hg : Host.gather gather_S64x64x32x80x3_S64x64x6x1_S64x64x6x80x3_34_2_01_01_2_3_111803 tr (wrapT idx) (ix5 s a t u c) = tr (ix5 s a r u c) :=
    entry_apply (by decide) _ tr (wrapT idx) s a t u c r (wrapT_apply idx s a t r h 0)
  have hi := inRange6_apply s a t r (wrapT idx) (wrapT_apply idx s a t r h)
  pointwise [takeT, hi, hg]

theorem takeP_apply (p : FVec Ideal S64x64x32 .f32) : takeP p idx (ix3 s a t) = p (ix3 s a r) := by
  have hg : Host.gather gather_S64x64x32_S64x64x6x1_S64x64x6_n_2_01_01_2_3_111 p (wrapP idx) (ix3 s a t) = p (ix3 s a r) :=
    point_apply (by decide) _ p (wrapP idx) s a t r (wrapP_apply idx s a t r h 0)
  have hi := inRange6_apply s a t r (wrapP idx) (wrapP_apply idx s a t r h)
  pointwise [takeP, hi, hg]

end Takes

/-- The positions of the six picked modes. -/
def modesV (near : IVec S64x64x32x32 1) (p : FVec Ideal S64x64x32 .f32) : IVec S64x64x6 32 :=
  cat (idxOf (scR near p 0)) (idxOf (scR near p 1)) (idxOf (scR near p 2)) (idxOf (scR near p 3)) (idxOf (scR near p 4)) (idxOf (scR near p 5))

theorem modesV_apply (near : IVec S64x64x32x32 1) (p : FVec Ideal S64x64x32 .f32) (s a : Fin 64) (t : Fin 6) :
    modesV near p (ix3 s a t) = BitVec.ofNat 32 (selV near p s a t : Nat) :=
  (cat_apply (fun t => idxOf (scR near p t)) s a t).trans (idxR_apply near p s a t)

/-- A sample of every fifth time from the fourth on. -/
theorem sample_apply (x : FVec Ideal S64x64x6x80x3 .f32) (s a : Fin 64) (j : Fin 6) (u : Fin 16) (k : Fin 3) :
    Host.slice S64x64x6x16x3 ![0, 0, 0, 4, 0] ![1, 1, 1, 5, 1] x slicesBy_S64x64x6x80x3_S64x64x6x16x3_0s1_0s1_0s1_4s5_0s1 (ix5 s a j u k)
      = x (ix5 s a j (tAt u) k) := by
  pointwise
  rfl

/-! ## The second pass -/

/-- The picked probabilities, made to sum to one. -/
def normV (p6 : FVec Ideal S64x64x6 .f32) : FVec Ideal S64x64x6 .f32 :=
  Host.divf p6 (broadcastInDim S64x64x6 ![0, 1, 2] bcast_S64x64x1_S64x64x6_0_1_2 (broadcastInDim S64x64x1 ![0, 1] bcast_S64x64_S64x64x1_0_1 (Host.reduceAdd p6 (constant S_ .f32 0x00000000#32) reducesTo_S64x64x6_S64x64_d2 h_S_)))
/-- The end points of the picked modes. -/
def end6 (tr : FVec Ideal S64x64x6x80x3 .f32) : FVec Ideal S64x64x6x2 .f32 :=
  shapeCast _ (extractStridedSlice S64x64x6x1x2 ![0, 0, 0, 79, 0] tr slices_S64x64x6x80x3_S64x64x6x1x2_0_0_0_79_0) shapeCasts_S64x64x6x1x2_S64x64x6x2
/-- Their differences. -/
def diff6 (e : FVec Ideal S64x64x6x2 .f32) : FVec Ideal S64x64x6x6x2 .f32 :=
  subf (broadcastInDim S64x64x6x6x2 ![0, 1, 2, 3, 4] bcast_S64x64x6x1x2_S64x64x6x6x2_0_1_2_3_4 (broadcastInDim S64x64x6x1x2 ![0, 1, 2, 4] bcast_S64x64x6x2_S64x64x6x1x2_0_1_2_4 e)) (broadcastInDim S64x64x6x6x2 ![0, 1, 2, 3, 4] bcast_S64x64x1x6x2_S64x64x6x6x2_0_1_2_3_4 (broadcastInDim S64x64x1x6x2 ![0, 1, 3, 4] bcast_S64x64x6x2_S64x64x1x6x2_0_1_3_4 e))
/-- Which picked modes are near which. -/
def near6 (A0 : FVec Ideal S64x64x3 .f32) (tr : FVec Ideal S64x64x6x80x3 .f32) : IVec S64x64x6x6 1 :=
  cmpf .olt (Host.sqrt (Host.reduceAdd (mulf (diff6 (end6 tr)) (diff6 (end6 tr))) (constant S_ .f32 0x00000000#32) reducesTo_S64x64x6x6x2_S64x64x6x6_d4 h_S_)) (broadcastInDim S64x64x6x6 ![0, 1, 2, 3] bcast_S64x64x1x1_S64x64x6x6_0_1_2_3 (broadcastInDim S64x64x1x1 ![0, 1] bcast_S64x64_S64x64x1x1_0_1 (thrV A0 lit1)))

/-- The picked modes by falling score. -/
def orderV (sv : FVec Ideal S64x64x6 .f32) : IVec S64x64x6 32 :=
  (Host.sort2 S64x64x6 2 comparator_f32_i32_d2 (Host.negf sv) (iotaInDim S64x64x6 32 2)).2

theorem orderV_apply (sv : FVec Ideal S64x64x6 .f32) (s a : Fin 64) (t : Fin 6) :
    ∃ k : Fin 6, orderV sv (ix3 s a t) = BitVec.ofNat 32 (k : Nat) := sort_position _ _ s a t

/-- The words, spread. -/
def spreadA (k : IVec S64x64 32) : IVec S64x64x1 32 := broadcastInDim S64x64x1 ![0, 1] bcast_S64x64_S64x64x1_0_1 k
/-- The words counted from the end when negative, for the scores. -/
def wrapA (k : IVec S64x64 32) : IVec S64x64x1x1 32 :=
  shapeCast _ (select (cmpi .slt (spreadA k) (broadcastInDim S64x64x1 ![] bcast_S_S64x64x1 (constantI S_ 32 0#32))) (addi (spreadA k) (broadcastInDim S64x64x1 ![] bcast_S_S64x64x1 (constantI S_ 32 6#32))) (spreadA k)) shapeCasts_S64x64x1_S64x64x1x1
/-- The same for the closeness. -/
def wrapB (k : IVec S64x64 32) : IVec S64x64x1x1 32 :=
  select (cmpi .slt (spread k) (broadcastInDim S64x64x1x1 ![] bcast_S_S64x64x1x1 (constantI S_ 32 0#32))) (addi (spread k) (broadcastInDim S64x64x1x1 ![] bcast_S_S64x64x1x1 (constantI S_ 32 6#32))) (spread k)
/-- Whether they name one of the six. -/
def inSix (w : IVec S64x64x1x1 32) : IVec S64x64x1 1 :=
  Host.reduce IntOp.andi (andi (cmpi .sge w (broadcastInDim S64x64x1x1 ![] bcast_S_S64x64x1x1 (constantI S_ 32 0#32))) (cmpi .sle w (broadcastInDim S64x64x1x1 ![0, 1, 2, 3] bcast_S1x1x1x1_S64x64x1x1_0_1_2_3 (broadcastInDim S1x1x1x1 ![3] bcast_S1_S1x1x1x1_3 (constantI S1 32 5#32))))) (constantI S_ 1 1#1) reducesTo_S64x64x1x1_S64x64x1_d3 h_S_
/-- The score the words name. -/
def scoreK (sc : FVec Ideal S64x64x6 .f32) (k : IVec S64x64 32) : FVec Ideal S64x64x1 .f32 :=
  select (inSix (wrapA k)) (Host.gather gather_S64x64x6_S64x64x1x1_S64x64x1_n_2_01_01_2_3_111 sc (wrapA k)) (broadcastInDim S64x64x1 ![] bcast_S_S64x64x1 (constant S_ .f32 0x7FC00000#32))
/-- The row of the closeness the words name. -/
def rowK (n6 : IVec S64x64x6x6 1) (k : IVec S64x64 32) : IVec S64x64x6 1 :=
  shapeCast _ (select (broadcastInDim S64x64x1x6 ![0, 1, 2] bcast_S64x64x1_S64x64x1x6_0_1_2 (inSix (wrapB k))) (Host.gather gather_S64x64x6x6_S64x64x1x1_S64x64x1x6_3_2_01_01_2_3_1116 n6 (wrapB k)) (broadcastInDim S64x64x1x6 ![] bcast_S_S64x64x1x6 (constantI S_ 1 1#1))) shapeCasts_S64x64x1x6_S64x64x6
/-- One step of the second pass: the named mode's score falls to a thousandth when a near mode's is larger. -/
def mpaStep (n6 : IVec S64x64x6x6 1) (sc : FVec Ideal S64x64x6 .f32) (k : IVec S64x64 32) : FVec Ideal S64x64x6 .f32 :=
  select (cmpi .eq (broadcastInDim S64x64x6 ![0, 1, 2] bcast_S64x64x1_S64x64x6_0_1_2 (broadcastInDim S64x64x1 ![0, 1] bcast_S64x64_S64x64x1_0_1 k)) (broadcastInDim S64x64x6 ![0, 1, 2] bcast_S1x1x6_S64x64x6_0_1_2 (iotaInDim S1x1x6 32 2))) (broadcastInDim S64x64x6 ![0, 1, 2] bcast_S64x64x1_S64x64x6_0_1_2 (select (broadcastInDim S64x64x1 ![0, 1] bcast_S64x64_S64x64x1_0_1 (Host.reduce IntOp.ori (andi (rowK n6 k) (cmpf .ogt sc (broadcastInDim S64x64x6 ![0, 1, 2] bcast_S64x64x1_S64x64x6_0_1_2 (scoreK sc k)))) (constantI S_ 1 0#1) reducesTo_S64x64x6_S64x64_d2 h_S_)) (broadcastInDim S64x64x1 ![] bcast_S_S64x64x1 (id (constant S_ .f32 0x3A83126F#32))) (scoreK sc k))) sc

theorem not_neg6 : ∀ r : Fin 6, IntOp.cmpi .slt (BitVec.ofNat 32 (r : Nat)) 0#32 = 0#1 := by decide
theorem in_bounds6 : ∀ r : Fin 6, IntOp.andi (IntOp.cmpi .sge (BitVec.ofNat 32 (r : Nat)) 0#32)
    (IntOp.cmpi .sle (BitVec.ofNat 32 (r : Nat)) 5#32) = 1#1 := by decide
theorem fold_ori : Finset.univ.fold IntOp.ori (0#1) (fun _ : Fin 6 => 0#1) = 0#1 := by decide

/-- A disjunction of bits is zero only when each of them is. -/
theorem ori_zero {ι : Type} (S : Finset ι) (f : ι → BitVec 1) (h : S.fold IntOp.ori (0#1) f = 0#1) : ∀ x ∈ S, f x = 0#1 := by
  classical
  induction S using Finset.induction_on with
  | empty => simp
  | insert x S hx ih =>
    rw [Finset.fold_insert hx] at h
    have both : ∀ p q : BitVec 1, IntOp.ori p q = 0#1 → p = 0#1 ∧ q = 0#1 := by decide
    obtain ⟨h1, h2⟩ := both _ _ h
    intro y hy
    rcases Finset.mem_insert.mp hy with rfl | hy
    · exact h1
    · exact ih h2 y hy
theorem eq_self : ∀ r : Fin 6, IntOp.cmpi .eq (BitVec.ofNat 32 (r : Nat)) (BitVec.ofNat 32 (r : Nat)) = 1#1 := by decide
theorem eq_other : ∀ r j : Fin 6, r ≠ j → IntOp.cmpi .eq (BitVec.ofNat 32 (r : Nat)) (BitVec.ofNat 32 (j : Nat)) = 0#1 := by decide

section Step

variable (k : IVec S64x64 32) (s a : Fin 64) (r : Fin 6) (h : k (ix2 s a) = BitVec.ofNat 32 (r : Nat))
include h

theorem wrapA_apply (u v : Fin 1) : wrapA k (ix4 s a u v) = BitVec.ofNat 32 (r : Nat) := by
  pointwise [wrapA, spreadA, h]
  rw [not_neg6]
  rfl

theorem wrapB_apply (u v : Fin 1) : wrapB k (ix4 s a u v) = BitVec.ofNat 32 (r : Nat) := by
  pointwise [wrapB, spread, h]
  rw [not_neg6]
  rfl

omit h in
theorem inSix_apply (w : IVec S64x64x1x1 32) (h : ∀ u v, w (ix4 s a u v) = BitVec.ofNat 32 (r : Nat)) (u : Fin 1) : inSix w (ix3 s a u) = 1#1 := by
  pointwise [inSix, h]
  rw [in_bounds6]
  exact fold_andi

theorem scoreK_apply (sc : FVec Ideal S64x64x6 .f32) (u : Fin 1) : scoreK sc k (ix3 s a u) = sc (ix3 s a r) := by
  have hg : Host.gather gather_S64x64x6_S64x64x1x1_S64x64x1_n_2_01_01_2_3_111 sc (wrapA k) (ix3 s a u) = sc (ix3 s a r) :=
    point_apply (by decide) _ sc (wrapA k) s a u r (wrapA_apply k s a r h u 0)
  have hi := inSix_apply s a r (wrapA k) (wrapA_apply k s a r h) u
  pointwise [scoreK, hi, hg]

theorem rowK_apply (n6 : IVec S64x64x6x6 1) (j : Fin 6) : rowK n6 k (ix3 s a j) = n6 (ix4 s a r j) := by
  have hg : Host.gather gather_S64x64x6x6_S64x64x1x1_S64x64x1x6_3_2_01_01_2_3_1116 n6 (wrapB k) (ix4 s a 0 j) = n6 (ix4 s a r j) :=
    row_apply (by decide) _ n6 (wrapB k) s a 0 j r (wrapB_apply k s a r h 0 0)
  have hi := inSix_apply s a r (wrapB k) (wrapB_apply k s a r h)
  pointwise [rowK, hi, hg]

/-- A step leaves the scores alone when no near mode's score is larger than the named one's. -/
theorem mpaStep_apply (n6 : IVec S64x64x6x6 1) (sc : FVec Ideal S64x64x6 .f32)
    (hno : ∀ i j : Fin 6, IntOp.andi (n6 (ix4 s a i j)) (BitVec.ofBool (decide (sc (ix3 s a i) < sc (ix3 s a j)))) = 0#1) (j : Fin 6) :
    mpaStep n6 sc k (ix3 s a j) = sc (ix3 s a j) := by
  have h1 := rowK_apply k s a r h n6
  have h2 := scoreK_apply k s a r h sc
  pointwise [mpaStep, h1, h2, h, hno r]
  rw [fold_ori]
  by_cases e : r = j
  · subst e
    rw [eq_self]
    rfl
  · rw [eq_other r j e]
    rfl

end Step

/-- The step's word. -/
def ordAt (sv : FVec Ideal S64x64x6 .f32) (t : Fin 6) (hs : S64x64x6.Slices ![0, 0, (t : Nat)] S64x64x1) : IVec S64x64 32 :=
  shapeCast _ (extractStridedSlice S64x64x1 ![0, 0, (t : Nat)] (orderV sv) hs) shapeCasts_S64x64x1_S64x64

/-! ## The mask -/

/-- Whether a picked mode has a near mode of a larger score. -/
def beaten (n6 : IVec S64x64x6x6 1) (sv : FVec Ideal S64x64x6 .f32) (b1 : S64x64x6.BroadcastsInDim S64x64x1x6 (![0, 1, 3] : Fin 3 → Fin S64x64x1x6.rank))
    (b2 : S64x64x6.BroadcastsInDim S64x64x6x1 (![0, 1, 2] : Fin 3 → Fin S64x64x6x1.rank))
    (b3 : S64x64x1x6.BroadcastsInDim S64x64x6x6 (![0, 1, 2, 3] : Fin 4 → Fin S64x64x6x6.rank))
    (b4 : S64x64x6x1.BroadcastsInDim S64x64x6x6 (![0, 1, 2, 3] : Fin 4 → Fin S64x64x6x6.rank)) (r : S64x64x6x6.ReducesTo [2, 3] S64x64) : IVec S64x64 1 :=
  Host.reduce IntOp.ori (andi n6 (cmpf .ogt (broadcastInDim S64x64x6x6 ![0, 1, 2, 3] b3 (broadcastInDim S64x64x1x6 ![0, 1, 3] b1 sv)) (broadcastInDim S64x64x6x6 ![0, 1, 2, 3] b4 (broadcastInDim S64x64x6x1 ![0, 1, 2] b2 sv)))) (constantI S_ 1 0#1) r h_S_

theorem beaten_apply (n6 : IVec S64x64x6x6 1) (sv : FVec Ideal S64x64x6 .f32) (b1 b2 b3 b4 r) (s a : Fin 64)
    (h : beaten n6 sv b1 b2 b3 b4 r (ix2 s a) = 0#1) (i j : Fin 6) :
    IntOp.andi (n6 (ix4 s a i j)) (BitVec.ofBool (decide (sv (ix3 s a i) < sv (ix3 s a j)))) = 0#1 := by
  pointwise [beaten] at h
  exact ori_zero _ _ h (i, j) (Finset.mem_univ _)

/-! ## The scores -/

/-- The logarithms, at the temperature. -/
def tempV (m : FVec Ideal S64x64x6 .f32) : FVec Ideal S64x64x6 .f32 :=
  Host.divf (Host.log (normV m)) (broadcastInDim S64x64x6 ![] bcast_S_S64x64x6 (constant S_ .f32 0x3F000000#32))
/-- Their shifted exponentials. -/
def exp6 (m : FVec Ideal S64x64x6 .f32) : FVec Ideal S64x64x6 .f32 :=
  Host.exp (subf (tempV m) (broadcastInDim S64x64x6 ![0, 1, 2] bcast_S64x64x1_S64x64x6_0_1_2 (broadcastInDim S64x64x1 ![0, 1] bcast_S64x64_S64x64x1_0_1 (maximumf (broadcastInDim S64x64 ![] bcast_S_S64x64 (constant S_ .f32 0xFF800000#32)) (Host.reduce FloatOps.maximumf (tempV m) (constant S_ .f32 0xFF800000#32) reducesTo_S64x64x6_S64x64_d2 h_S_)))))

theorem normV_apply (p6 : FVec Ideal S64x64x6 .f32) (s a : Fin 64) (j : Fin 6) :
    normV p6 (ix3 s a j) = Ideal.div (p6 (ix3 s a j)) (∑ x : Fin 6, p6 (ix3 s a x)) := by
  pointwise [normV]

/-- The scores of one agent from its picked, normalised probabilities. -/
def logSoft (m : Fin 6 → EReal) : Fin 6 → EReal :=
  smax fun j => Ideal.div (Ideal.log (Ideal.div (m j) (∑ x : Fin 6, m x))) (Ideal.ofBits .f32 0x3F000000#32)

theorem soft_apply (m : FVec Ideal S64x64x6 .f32) (s a : Fin 64) (j : Fin 6) :
    normV (exp6 m) (ix3 s a j) = logSoft (fun t => m (ix3 s a t)) j := by
  have ht : ∀ t, tempV m (ix3 s a t) = Ideal.div (Ideal.log (Ideal.div (m (ix3 s a t)) (∑ x : Fin 6, m (ix3 s a x)))) (Ideal.ofBits .f32 0x3F000000#32) := by
    intro t
    have hn := normV_apply m s a
    pointwise [tempV, hn]
  rw [normV_apply]
  have he : ∀ t, exp6 m (ix3 s a t) = Ideal.exp (tempV m (ix3 s a t) - Finset.univ.fold max ⊥ fun j => tempV m (ix3 s a j)) := by
    intro t
    pointwise [exp6]
    rw [negInf, max_eq_right bot_le]
  simp only [he, ht]
  rfl

end ModeNms.Ref

end
-- ==== Proof.Links.lean ====
/- The reference program's named intermediate arrays are the arrays the earlier modules describe. -/
module

public import proofs.«01_k».proof.Proof.Gen.ReferenceIdeal.Run
public import proofs.«01_k».proof.Proof.RefTail

@[expose] public section

set_option maxRecDepth 16384

noncomputable section

namespace ModeNms.Ref

open Idealize.ShloMosaic Cert.ReferenceIdeal Cert.ReferenceIdeal.Gen Cert.ReferenceIdeal.Value

/-- The word of each step of the second pass. -/
def wordA (sv : FVec Ideal S64x64x6 .f32) : Nat → IVec S64x64 32
  | 0 => ordAt sv 0 slices_S64x64x6_S64x64x1_0_0_0
  | 1 => ordAt sv 1 slices_S64x64x6_S64x64x1_0_0_1
  | 2 => ordAt sv 2 slices_S64x64x6_S64x64x1_0_0_2
  | 3 => ordAt sv 3 slices_S64x64x6_S64x64x1_0_0_3
  | 4 => ordAt sv 4 slices_S64x64x6_S64x64x1_0_0_4
  | _ => ordAt sv 5 slices_S64x64x6_S64x64x1_0_0_5

/-- The array `t` steps of the second pass leave, from scores `sv` and closeness `n6`. -/
def pass (n6 : IVec S64x64x6x6 1) (sv : FVec Ideal S64x64x6 .f32) : Nat → FVec Ideal S64x64x6 .f32
  | 0 => sv
  | t + 1 => mpaStep n6 (pass n6 sv t) (wordA sv t)

theorem ordAt_apply (sv : FVec Ideal S64x64x6 .f32) (t : Fin 6) (hs : S64x64x6.Slices ![0, 0, (t : Nat)] S64x64x1) (s a : Fin 64) :
    ∃ r : Fin 6, ordAt sv t hs (ix2 s a) = BitVec.ofNat 32 (r : Nat) := by
  obtain ⟨r, hr⟩ := orderV_apply sv s a t
  refine ⟨r, ?_⟩
  rw [← hr]
  pointwise [ordAt]

theorem wordA_apply (sv : FVec Ideal S64x64x6 .f32) (s a : Fin 64) : ∀ t, ∃ r : Fin 6, wordA sv t (ix2 s a) = BitVec.ofNat 32 (r : Nat)
  | 0 => ordAt_apply sv 0 _ s a
  | 1 => ordAt_apply sv 1 _ s a
  | 2 => ordAt_apply sv 2 _ s a
  | 3 => ordAt_apply sv 3 _ s a
  | 4 => ordAt_apply sv 4 _ s a
  | _ + 5 => ordAt_apply sv 5 _ s a

/-- The second pass leaves the scores of an agent alone when none of its modes has a near one of larger score. -/
theorem pass_apply (n6 : IVec S64x64x6x6 1) (sv : FVec Ideal S64x64x6 .f32) (s a : Fin 64)
    (hno : ∀ i j : Fin 6, IntOp.andi (n6 (ix4 s a i j)) (BitVec.ofBool (decide (sv (ix3 s a i) < sv (ix3 s a j)))) = 0#1) (t : Nat) :
    ∀ j : Fin 6, pass n6 sv t (ix3 s a j) = sv (ix3 s a j) := by
  induction t with
  | zero => exact fun _ => rfl
  | succ t ih =>
    intro j
    obtain ⟨r, hr⟩ := wordA_apply sv s a t
    refine (mpaStep_apply (wordA sv t) s a r hr n6 (pass n6 sv t) ?_ j).trans (ih j)
    intro i j
    simp only [ih]
    exact hno i j

section Links

variable (V0 : Valuation τ sig (Elt Ideal))

/-- The three arguments. -/
abbrev a0 : FVec Ideal S64x64x3 .f32 := V0 (Proc.devRef .tc main_arg0)
abbrev a1 : FVec Ideal S64x32x64x80x3 .f32 := V0 (Proc.devRef .tc main_arg1)
abbrev a2 : FVec Ideal S64x32x64 .f32 := V0 (Proc.devRef .tc main_arg2)

/-- The positions of the six picked modes, from the arguments. -/
def modesA (A0 : FVec Ideal S64x64x3 .f32) (A1 : FVec Ideal S64x32x64x80x3 .f32) (A2 : FVec Ideal S64x32x64 .f32) : IVec S64x64x6 32 :=
  modesV (nearV A0 A1) (pV A2)
/-- The picked modes' trajectories, normalised scores and closeness, from the arguments. -/
def trA (A0 : FVec Ideal S64x64x3 .f32) (A1 : FVec Ideal S64x32x64x80x3 .f32) (A2 : FVec Ideal S64x32x64 .f32) : FVec Ideal S64x64x6x80x3 .f32 :=
  takeT (trV A1) (modesA A0 A1 A2)
def svA (A0 : FVec Ideal S64x64x3 .f32) (A1 : FVec Ideal S64x32x64x80x3 .f32) (A2 : FVec Ideal S64x32x64 .f32) : FVec Ideal S64x64x6 .f32 :=
  normV (takeP (pV A2) (modesA A0 A1 A2))
def n6A (A0 : FVec Ideal S64x64x3 .f32) (A1 : FVec Ideal S64x32x64x80x3 .f32) (A2 : FVec Ideal S64x32x64 .f32) : IVec S64x64x6x6 1 :=
  near6 A0 (trA A0 A1 A2)

theorem link0 : res_main_v0 V0 = trV (a1 V0) := rfl
theorem link8 : res_main_v8 V0 = expV (a2 V0) := by
  unfold res_main_v8 res_main_v1; rfl
theorem link12 : res_main_v12 V0 = pV (a2 V0) := by
  unfold res_main_v12; rw [link8]; rfl
theorem link15 : res_main_v15 V0 = endV (a1 V0) := by
  unfold res_main_v15; rw [link0]; rfl
theorem link20 : res_main_v20 V0 = diffV (endV (a1 V0)) := by
  unfold res_main_v20; rw [link15]; rfl
theorem link24 : res_main_v24 V0 = nearV (a0 V0) (a1 V0) := by
  unfold res_main_v24; rw [link20]; rfl
theorem link25 : res_main_v25 V0 = idxOf (scR (nearV (a0 V0) (a1 V0)) (pV (a2 V0)) 0) := by
  unfold res_main_v25; rw [link12]; rfl
theorem link39 : res_main_v39 V0 = scR (nearV (a0 V0) (a1 V0)) (pV (a2 V0)) 1 := by
  unfold res_main_v39 res_main_call1_v4 res_main_v26; rw [link24, link25, link12]; rfl
theorem link40 : res_main_v40 V0 = idxOf (scR (nearV (a0 V0) (a1 V0)) (pV (a2 V0)) 1) := by
  unfold res_main_v40; rw [link39]; rfl
theorem link54 : res_main_v54 V0 = scR (nearV (a0 V0) (a1 V0)) (pV (a2 V0)) 2 := by
  unfold res_main_v54 res_main_call4_v4 res_main_v41; rw [link24, link40, link39]; rfl
theorem link55 : res_main_v55 V0 = idxOf (scR (nearV (a0 V0) (a1 V0)) (pV (a2 V0)) 2) := by
  unfold res_main_v55; rw [link54]; rfl
theorem link69 : res_main_v69 V0 = scR (nearV (a0 V0) (a1 V0)) (pV (a2 V0)) 3 := by
  unfold res_main_v69 res_main_call7_v4 res_main_v56; rw [link24, link55, link54]; rfl
theorem link70 : res_main_v70 V0 = idxOf (scR (nearV (a0 V0) (a1 V0)) (pV (a2 V0)) 3) := by
  unfold res_main_v70; rw [link69]; rfl
theorem link84 : res_main_v84 V0 = scR (nearV (a0 V0) (a1 V0)) (pV (a2 V0)) 4 := by
  unfold res_main_v84 res_main_call10_v4 res_main_v71; rw [link24, link70, link69]; rfl
theorem link85 : res_main_v85 V0 = idxOf (scR (nearV (a0 V0) (a1 V0)) (pV (a2 V0)) 4) := by
  unfold res_main_v85; rw [link84]; rfl
theorem link99 : res_main_v99 V0 = scR (nearV (a0 V0) (a1 V0)) (pV (a2 V0)) 5 := by
  unfold res_main_v99 res_main_call13_v4 res_main_v86; rw [link24, link85, link84]; rfl
theorem link100 : res_main_v100 V0 = idxOf (scR (nearV (a0 V0) (a1 V0)) (pV (a2 V0)) 5) := by
  unfold res_main_v100; rw [link99]; rfl
theorem link121 : res_main_v121 V0 = modesA (a0 V0) (a1 V0) (a2 V0) := by
  unfold res_main_v121; rw [link25, link40, link55, link70, link85, link100]; rfl
theorem link123 : res_main_v123 V0 = trA (a0 V0) (a1 V0) (a2 V0) := by
  unfold res_main_v123 res_main_call19_v5 res_main_v122; rw [link121, link0]; rfl
theorem link124 : res_main_v124 V0 = takeP (pV (a2 V0)) (modesA (a0 V0) (a1 V0) (a2 V0)) := by
  unfold res_main_v124 res_main_call20_v5; rw [link121, link12]; rfl
theorem link128 : res_main_v128 V0 = svA (a0 V0) (a1 V0) (a2 V0) := by
  unfold res_main_v128; rw [link124]; rfl
theorem link136 : res_main_v136 V0 = diff6 (end6 (trA (a0 V0) (a1 V0) (a2 V0))) := by
  unfold res_main_v136 res_main_v131; rw [link123]; rfl
theorem link140 : res_main_v140 V0 = n6A (a0 V0) (a1 V0) (a2 V0) := by
  unfold res_main_v140; rw [link136]; rfl
theorem link142 : res_main_v142 V0 = orderV (svA (a0 V0) (a1 V0) (a2 V0)) := by
  unfold res_main_v142 res_main_v141 res_main_call22_v0; rw [link128]; rfl
theorem link144 : res_main_v144 V0 = wordA (svA (a0 V0) (a1 V0) (a2 V0)) 0 := by
  unfold res_main_v144; rw [link142]; rfl
theorem link157 : res_main_v157 V0 = pass (n6A (a0 V0) (a1 V0) (a2 V0)) (svA (a0 V0) (a1 V0) (a2 V0)) 1 := by
  unfold res_main_v157 res_main_call24_v4 res_main_v147 res_main_v146 res_main_call23_v5 res_main_v145
  rw [link140, link144, link128]; rfl
theorem link159 : res_main_v159 V0 = wordA (svA (a0 V0) (a1 V0) (a2 V0)) 1 := by
  unfold res_main_v159; rw [link142]; rfl
theorem link172 : res_main_v172 V0 = pass (n6A (a0 V0) (a1 V0) (a2 V0)) (svA (a0 V0) (a1 V0) (a2 V0)) 2 := by
  unfold res_main_v172 res_main_call29_v4 res_main_v162 res_main_v161 res_main_call28_v5 res_main_v160
  rw [link140, link159, link157]; rfl
theorem link174 : res_main_v174 V0 = wordA (svA (a0 V0) (a1 V0) (a2 V0)) 2 := by
  unfold res_main_v174; rw [link142]; rfl
theorem link187 : res_main_v187 V0 = pass (n6A (a0 V0) (a1 V0) (a2 V0)) (svA (a0 V0) (a1 V0) (a2 V0)) 3 := by
  unfold res_main_v187 res_main_call34_v4 res_main_v177 res_main_v176 res_main_call33_v5 res_main_v175
  rw [link140, link174, link172]; rfl
theorem link189 : res_main_v189 V0 = wordA (svA (a0 V0) (a1 V0) (a2 V0)) 3 := by
  unfold res_main_v189; rw [link142]; rfl
theorem link202 : res_main_v202 V0 = pass (n6A (a0 V0) (a1 V0) (a2 V0)) (svA (a0 V0) (a1 V0) (a2 V0)) 4 := by
  unfold res_main_v202 res_main_call39_v4 res_main_v192 res_main_v191 res_main_call38_v5 res_main_v190
  rw [link140, link189, link187]; rfl
theorem link204 : res_main_v204 V0 = wordA (svA (a0 V0) (a1 V0) (a2 V0)) 4 := by
  unfold res_main_v204; rw [link142]; rfl
theorem link217 : res_main_v217 V0 = pass (n6A (a0 V0) (a1 V0) (a2 V0)) (svA (a0 V0) (a1 V0) (a2 V0)) 5 := by
  unfold res_main_v217 res_main_call44_v4 res_main_v207 res_main_v206 res_main_call43_v5 res_main_v205
  rw [link140, link204, link202]; rfl
theorem link219 : res_main_v219 V0 = wordA (svA (a0 V0) (a1 V0) (a2 V0)) 5 := by
  unfold res_main_v219; rw [link142]; rfl
theorem link232 : res_main_v232 V0 = pass (n6A (a0 V0) (a1 V0) (a2 V0)) (svA (a0 V0) (a1 V0) (a2 V0)) 6 := by
  unfold res_main_v232 res_main_call49_v4 res_main_v222 res_main_v221 res_main_call48_v5 res_main_v220
  rw [link140, link219, link217]; rfl
theorem link239 : res_main_v239 V0 = tempV (pass (n6A (a0 V0) (a1 V0) (a2 V0)) (svA (a0 V0) (a1 V0) (a2 V0)) 6) := by
  unfold res_main_v239; rw [link232]; rfl
theorem link246 : res_main_v246 V0 = exp6 (pass (n6A (a0 V0) (a1 V0) (a2 V0)) (svA (a0 V0) (a1 V0) (a2 V0)) 6) := by
  unfold res_main_v246; rw [link239]; rfl

end Links

end ModeNms.Ref

end
-- ==== Proof.Mask.lean ====
/- What the mask says: where it is set, none of an agent's picked modes has a near one of larger score. -/
module

public import proofs.«01_k».proof.Proof.Gen.On_unsuppressed
public import proofs.«01_k».proof.Proof.Links

@[expose] public section

set_option maxRecDepth 16384

noncomputable section

namespace ModeNms.Mask

open Idealize.ShloMosaic Cert.On_unsuppressed Cert.On_unsuppressed.Gen

section Parts

variable (A0 : FVec Ideal S64x64x3 .f32) (v0 : FVec Ideal S64x64x32x80x3 .f32) (v12 : FVec Ideal S64x64x32 .f32) (v24 : IVec S64x64x32x32 1)
  (i0 i1 i2 i3 i4 : IVec S64x64 32) (sc : FVec Ideal S64x64x32 .f32)

/-- The literal of the threshold's weights. -/
def weights : FVec Ideal S3 .f32 := fun i => FloatOps.ofBits .f32 (lit1 (S3.rowMajor i))

/-- The closeness from the end points. -/
def nearE (e : FVec Ideal S64x64x32x2 .f32) : IVec S64x64x32x32 1 :=
  cmpf .olt (fn_norm (F := Ideal) (Ref.diffV e)) (broadcastInDim S64x64x32x32 ![0, 1, 2, 3] bcast_S64x64x1x1_S64x64x32x32_0_1_2_3 (broadcastInDim S64x64x1x1 ![0, 1] bcast_S64x64_S64x64x1x1_0_1 (Ref.thrV A0 lit0)))

/-- The flag of an agent without such a pair, for each of its picked modes. -/
def flag (b : IVec S64x64 1) : IVec S64x64x6 1 :=
  (fn_part6 (F := Ideal) b (constantI S_ 1 1#1)).2

/-- The last part: the flag of the pairs of the picked modes. -/
theorem part5_eq (tr : FVec Ideal S64x64x6x80x3 .f32) (p : FVec Ideal S64x64x6 .f32) :
    (fn_part5 (F := Ideal) A0 weights tr p (Host.reduceAdd p (constant S_ .f32 0x00000000#32) reducesTo_S64x64x6_S64x64_d2 h_S_)).2
      = flag (Ref.beaten (Ref.near6 A0 tr) (Ref.normV p) bcast_S64x64x6_S64x64x1x6_0_1_3 bcast_S64x64x6_S64x64x6x1_0_1_2
          bcast_S64x64x1x6_S64x64x6x6_0_1_2_3 bcast_S64x64x6x1_S64x64x6x6_0_1_2_3 reducesTo_S64x64x6x6_S64x64_d2_3) := rfl

/-- Part 4: the sixth pick, the arrays at the six. -/
theorem part4_eq :
    fn_part4 (F := Ideal) A0 weights v0 v12 v24 i0 i1 i2 i3 i4 sc
      = fn_part5 (F := Ideal) A0 weights (Ref.takeT v0 (Ref.cat i0 i1 i2 i3 i4 (Ref.idxOf sc))) (Ref.takeP v12 (Ref.cat i0 i1 i2 i3 i4 (Ref.idxOf sc)))
          (Host.reduceAdd (Ref.takeP v12 (Ref.cat i0 i1 i2 i3 i4 (Ref.idxOf sc))) (constant S_ .f32 0x00000000#32) reducesTo_S64x64x6_S64x64_d2 h_S_) := rfl

/-- Part 3: steps 3 and 4. -/
theorem part3_eq :
    fn_part3 (F := Ideal) A0 weights v0 v12 v24 i0 i1 i2 sc (Ref.idxOf sc)
      = fn_part4 (F := Ideal) A0 weights v0 v12 v24 i0 i1 i2 (Ref.idxOf sc) (Ref.idxOf (Ref.stepM v24 sc (Ref.idxOf sc)))
          (Ref.stepM v24 (Ref.stepM v24 sc (Ref.idxOf sc)) (Ref.idxOf (Ref.stepM v24 sc (Ref.idxOf sc)))) := rfl

/-- Part 2: steps 1 and 2. -/
theorem part2_eq :
    fn_part2 (F := Ideal) A0 weights v0 v12 v24 i0 sc (Ref.idxOf sc)
        (fn_take_along_axis (F := Ideal) v24 (broadcastInDim S64x64x1x1 ![0, 1] bcast_S64x64_S64x64x1x1_0_1 (Ref.idxOf sc)))
      = fn_part3 (F := Ideal) A0 weights v0 v12 v24 i0 (Ref.idxOf sc) (Ref.idxOf (Ref.stepM v24 sc (Ref.idxOf sc)))
          (Ref.stepM v24 (Ref.stepM v24 sc (Ref.idxOf sc)) (Ref.idxOf (Ref.stepM v24 sc (Ref.idxOf sc))))
          (Ref.idxOf (Ref.stepM v24 (Ref.stepM v24 sc (Ref.idxOf sc)) (Ref.idxOf (Ref.stepM v24 sc (Ref.idxOf sc))))) := rfl

/-- Part 1: the closeness and step 0. -/
theorem part1_eq (e : FVec Ideal S64x64x32x2 .f32) :
    fn_part1 (F := Ideal) A0 weights v0 v12 (Ref.thrV A0 lit0)
        (broadcastInDim S64x64x1x32x2 ![0, 1, 3, 4] bcast_S64x64x32x2_S64x64x1x32x2_0_1_3_4 e)
        (broadcastInDim S64x64x32x32x2 ![0, 1, 2, 3, 4] bcast_S64x64x32x1x2_S64x64x32x32x2_0_1_2_3_4
          (broadcastInDim S64x64x32x1x2 ![0, 1, 2, 4] bcast_S64x64x32x2_S64x64x32x1x2_0_1_2_4 e))
      = fn_part2 (F := Ideal) A0 weights v0 v12 (nearE A0 e) (Ref.idxOf v12) (Ref.stepM (nearE A0 e) v12 (Ref.idxOf v12))
          (Ref.idxOf (Ref.stepM (nearE A0 e) v12 (Ref.idxOf v12)))
          (fn_take_along_axis (F := Ideal) (nearE A0 e)
            (broadcastInDim S64x64x1x1 ![0, 1] bcast_S64x64_S64x64x1x1_0_1 (Ref.idxOf (Ref.stepM (nearE A0 e) v12 (Ref.idxOf v12))))) := rfl

end Parts

/-- The mask's closeness from its end points is the reference's. -/
theorem nearE_eq (A0 : FVec Ideal S64x64x3 .f32) (A1 : FVec Ideal S64x32x64x80x3 .f32) : nearE A0 (Ref.endV A1) = Ref.nearV A0 A1 := rfl

theorem head_eq (A0 : FVec Ideal S64x64x3 .f32) (A1 : FVec Ideal S64x32x64x80x3 .f32) (A2 : FVec Ideal S64x32x64 .f32) :
    fn (F := Ideal) A0 A1 A2 = fn_part1 (F := Ideal) A0 weights (Ref.trV A1) (Ref.pV A2) (Ref.thrV A0 lit0)
        (broadcastInDim S64x64x1x32x2 ![0, 1, 3, 4] bcast_S64x64x32x2_S64x64x1x32x2_0_1_3_4 (Ref.endV A1))
        (broadcastInDim S64x64x32x32x2 ![0, 1, 2, 3, 4] bcast_S64x64x32x1x2_S64x64x32x32x2_0_1_2_3_4
          (broadcastInDim S64x64x32x1x2 ![0, 1, 2, 4] bcast_S64x64x32x2_S64x64x32x1x2_0_1_2_4 (Ref.endV A1))) := rfl

/-- The scores' flags are those of the reference's own closeness and scores. -/
theorem mask_eq (A0 : FVec Ideal S64x64x3 .f32) (A1 : FVec Ideal S64x32x64x80x3 .f32) (A2 : FVec Ideal S64x32x64 .f32) :
    (fn (F := Ideal) A0 A1 A2).2
      = flag (Ref.beaten (Ref.n6A A0 A1 A2) (Ref.svA A0 A1 A2) bcast_S64x64x6_S64x64x1x6_0_1_3 bcast_S64x64x6_S64x64x6x1_0_1_2
          bcast_S64x64x1x6_S64x64x6x6_0_1_2_3 bcast_S64x64x6x1_S64x64x6x6_0_1_2_3 reducesTo_S64x64x6x6_S64x64_d2_3) := by
  have h0 := Ref.scM_eq (Ref.nearV A0 A1) (Ref.pV A2) 0
  have h1 := Ref.scM_eq (Ref.nearV A0 A1) (Ref.pV A2) 1
  have h2 := Ref.scM_eq (Ref.nearV A0 A1) (Ref.pV A2) 2
  have h3 := Ref.scM_eq (Ref.nearV A0 A1) (Ref.pV A2) 3
  have h4 := Ref.scM_eq (Ref.nearV A0 A1) (Ref.pV A2) 4
  have h5 := Ref.scM_eq (Ref.nearV A0 A1) (Ref.pV A2) 5
  rw [head_eq, part1_eq, part2_eq, part3_eq, part4_eq, part5_eq, nearE_eq]
  unfold Ref.n6A Ref.svA Ref.trA Ref.modesA Ref.modesV
  rw [← h0, ← h1, ← h2, ← h3, ← h4, ← h5]
  rfl

/-- Where the flag of an agent's score is set, no picked mode of it has a near one of larger score. -/
theorem mask_apply (A0 : FVec Ideal S64x64x3 .f32) (A1 : FVec Ideal S64x32x64x80x3 .f32) (A2 : FVec Ideal S64x32x64 .f32) (s a : Fin 64) (t : Fin 6)
    (h : (fn (F := Ideal) A0 A1 A2).2 (ix3 s a t) = 1#1) (i j : Fin 6) :
    IntOp.andi (Ref.n6A A0 A1 A2 (ix4 s a i j)) (BitVec.ofBool (decide (Ref.svA A0 A1 A2 (ix3 s a i) < Ref.svA A0 A1 A2 (ix3 s a j)))) = 0#1 := by
  rw [mask_eq] at h
  refine Ref.beaten_apply (Ref.n6A A0 A1 A2) (Ref.svA A0 A1 A2) bcast_S64x64x6_S64x64x1x6_0_1_3 bcast_S64x64x6_S64x64x6x1_0_1_2
    bcast_S64x64x1x6_S64x64x6x6_0_1_2_3 bcast_S64x64x6x1_S64x64x6x6_0_1_2_3 reducesTo_S64x64x6x6_S64x64_d2_3 s a ?_ i j
  pointwise [flag, fn_part6] at h
  exact (by decide : ∀ b : BitVec 1, ~~~b = 1#1 → b = 0#1) _ h

end ModeNms.Mask

end
-- ==== Proof.Scores.lean ====
/- The squares of the picked probabilities over the sum of the squares are the shifted exponentials of twice the
   logarithms over their sum: the kernel's scores are the reference's. -/
module

public import proofs.«01_k».proof.Proof.RefTail

@[expose] public section

set_option maxRecDepth 16384

noncomputable section

namespace ModeNms

open Idealize.ShloMosaic

theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem sum_real {n : Nat} (r : Fin n → ℝ) : (∑ x, ((r x : ℝ) : EReal)) = ((∑ x, r x : ℝ) : EReal) := by
  induction n with
  | zero => simp
  | succ n ih => rw [Fin.sum_univ_succ, Fin.sum_univ_succ, ih, EReal.coe_add]

theorem zero_div_zero : Ideal.div 0 0 = ⊥ := by simp [Ideal.div]
theorem bot_div_bot : Ideal.div ⊥ ⊥ = 0 := by simp [Ideal.div]
theorem exp_bot : Ideal.exp ⊥ = 0 := rfl
theorem half_eq : Ideal.ofBits .f32 0x3F000000#32 = ((1 / 2 : ℝ) : EReal) := by
  simp [Ideal.ofBits, Ideal.ieee]; norm_num; rw [← EReal.coe_mul]; norm_num

theorem sub_top' (x : EReal) : x - ⊤ = ⊥ := by rw [sub_eq_add_neg, EReal.neg_top, EReal.add_bot]
theorem bot_sub' (x : EReal) : (⊥ : EReal) - x = ⊥ := by rw [sub_eq_add_neg, EReal.bot_add]

/-- The row of a maximum's shifted exponentials is all without value, or all real, none negative and one positive. -/
theorem smax_cases {n : Nat} (p : Fin (n + 1) → EReal) :
    (∀ j, smax p j = ⊥) ∨ ∃ r : Fin (n + 1) → ℝ, (∀ j, smax p j = (r j : EReal)) ∧ (∀ j, 0 ≤ r j) ∧ ∃ j, 0 < r j := by
  obtain ⟨i, -, hi⟩ := Finset.exists_max_image Finset.univ p ⟨0, Finset.mem_univ _⟩
  have hM := fold_max_eq p i fun j => hi j (Finset.mem_univ _)
  have bad : (∀ j, p j - p i = ⊥) → ∀ j, smax p j = ⊥ := by
    intro h j
    simp only [smax, hM, h, exp_bot, Finset.sum_const_zero, zero_div_zero]
  rcases hc : p i with _ | c
  · left
    apply bad
    intro j
    have hj : p j = ⊥ := le_bot_iff.1 ((hi j (Finset.mem_univ _)).trans_eq hc)
    rw [hj, bot_sub']
  rcases c with _ | c
  · left
    apply bad
    intro j
    rw [hc]
    exact sub_top' _
  right
  have hc : p i = (c : EReal) := hc
  have he : ∀ j, ∃ e : ℝ, 0 ≤ e ∧ Ideal.exp (p j - (c : EReal)) = (e : EReal) ∧ (j = i → 0 < e) := by
    intro j
    rcases hj : p j with _ | d
    · exact ⟨0, le_rfl, by show Ideal.exp ((⊥ : EReal) - (c : EReal)) = _; rw [bot_sub']; rfl, fun h => by subst h; rw [hj] at hc; cases hc⟩
    rcases d with _ | d
    · exfalso
      have := hi j (Finset.mem_univ _)
      rw [hj, hc] at this
      exact absurd this (not_le.2 (EReal.coe_lt_top c))
    · refine ⟨Real.exp (d - c), (Real.exp_pos _).le, ?_, fun _ => Real.exp_pos _⟩
      show Ideal.exp ((d : EReal) - (c : EReal)) = _
      rw [← EReal.coe_sub]; rfl
  choose e h0 h1 h2 using he
  have hpos : 0 < ∑ x, e x := Finset.sum_pos' (fun x _ => h0 x) ⟨i, Finset.mem_univ _, h2 i rfl⟩
  refine ⟨fun j => e j / ∑ x, e x, ?_, fun j => div_nonneg (h0 j) hpos.le, i, div_pos (h2 i rfl) hpos⟩
  intro j
  simp only [smax, hM, hc, h1, sum_real]
  exact div_real _ _ hpos.ne'

/-- The largest of six whose first is the largest. -/
theorem max_six (q : Fin 6 → EReal) (h : ∀ j, q j ≤ q 0) : max (max (max (max (max (q 0) (q 1)) (q 2)) (q 3)) (q 4)) (q 5) = q 0 := by
  rw [max_eq_left (h 1), max_eq_left (h 2), max_eq_left (h 3), max_eq_left (h 4), max_eq_left (h 5)]

theorem sqScore_sum (q : Fin 6 → EReal) (j : Fin 6) : sqScore q j = Ideal.div (sqRatio q j) (∑ x, sqRatio q x) := by
  rw [sqScore, Fin.sum_univ_six]

/-- Twice the logarithm of a number that is not negative. -/
theorem log_half (x : ℝ) (hx : 0 ≤ x) : Ideal.div (Ideal.log (x : EReal)) ((1 / 2 : ℝ) : EReal) = if x = 0 then ⊥ else ((2 * Real.log x : ℝ) : EReal) := by
  by_cases h : x = 0
  · rw [if_pos h, h]
    have : Ideal.log ((0 : ℝ) : EReal) = ⊥ := by
      show (if (0 : ℝ) ≤ 0 then (⊥ : EReal) else _) = ⊥
      rw [if_pos le_rfl]
    rw [this, Ideal.div, if_neg (by norm_num), ← EReal.coe_inv]
    exact EReal.bot_mul_coe_of_pos (by norm_num)
  · rw [if_neg h]
    have hp : 0 < x := lt_of_le_of_ne hx (Ne.symm h)
    have : Ideal.log (x : EReal) = ((Real.log x : ℝ) : EReal) := by
      show (if x ≤ 0 then (⊥ : EReal) else _) = _
      rw [if_neg (not_le.2 hp)]
    rw [this, div_real _ _ (by norm_num)]
    congr 1
    ring

theorem score_real (r : Fin 6 → ℝ) (h0 : ∀ j, 0 ≤ r j) (hp : 0 < r 0) (hm : ∀ j, r j ≤ r 0) (q : Fin 6 → EReal) (hq : ∀ j, q j = (r j : EReal)) (j : Fin 6) :
    Ref.logSoft (fun t => Ideal.div (q t) (∑ x, q x)) j = sqScore q j := by
  have hS : 0 < ∑ x, r x := Finset.sum_pos' (fun x _ => h0 x) ⟨0, Finset.mem_univ _, hp⟩
  have hn : ∀ t, Ideal.div (q t) (∑ x, q x) = ((r t / ∑ x, r x : ℝ) : EReal) := by
    intro t
    simp only [hq, sum_real]
    exact div_real _ _ hS.ne'
  have hone : (∑ t, r t / ∑ x, r x) = 1 := by rw [← Finset.sum_div, div_self hS.ne']
  have hl : ∀ t, Ideal.div (Ideal.log (Ideal.div (Ideal.div (q t) (∑ x, q x)) (∑ x, Ideal.div (q x) (∑ x, q x)))) (Ideal.ofBits .f32 0x3F000000#32)
      = if r t / (∑ x, r x) = 0 then ⊥ else ((2 * Real.log (r t / ∑ x, r x) : ℝ) : EReal) := by
    intro t
    simp only [hn]
    rw [sum_real, hone, div_real _ _ one_ne_zero, div_one, half_eq]
    exact log_half _ (div_nonneg (h0 t) hS.le)
  have hr : ∀ t, sqRatio q t = ((r t / r 0 * (r t / r 0) : ℝ) : EReal) := by
    intro t
    have hle : ∀ j, q j ≤ q 0 := fun j => by rw [hq, hq]; exact_mod_cast hm j
    rw [sqRatio, max_six q hle, hq, hq, div_real _ _ hp.ne', ← EReal.coe_mul]
  rw [sqScore_sum]
  unfold Ref.logSoft smax
  simp only [hl]
  have h00 : r 0 / (∑ x, r x) ≠ 0 := (div_pos hp hS).ne'
  have hM := fold_max_eq (fun t : Fin 6 => if r t / (∑ x, r x) = 0 then (⊥ : EReal) else ((2 * Real.log (r t / ∑ x, r x) : ℝ) : EReal)) 0 (by
    intro t
    show (if r t / (∑ x, r x) = 0 then (⊥ : EReal) else _) ≤ (if r 0 / (∑ x, r x) = 0 then (⊥ : EReal) else _)
    rw [if_neg h00]
    by_cases ht : r t / (∑ x, r x) = 0
    · rw [if_pos ht]; exact bot_le
    · rw [if_neg ht, EReal.coe_le_coe_iff]
      have : 0 < r t / ∑ x, r x := lt_of_le_of_ne (div_nonneg (h0 t) hS.le) (Ne.symm ht)
      have := Real.log_le_log this (div_le_div_of_nonneg_right (hm t) hS.le)
      linarith)
  rw [hM]
  have he : ∀ t, Ideal.exp ((if r t / (∑ x, r x) = 0 then (⊥ : EReal) else ((2 * Real.log (r t / ∑ x, r x) : ℝ) : EReal))
      - (if r 0 / (∑ x, r x) = 0 then (⊥ : EReal) else ((2 * Real.log (r 0 / ∑ x, r x) : ℝ) : EReal))) = sqRatio q t := by
    intro t
    rw [hr, if_neg h00]
    by_cases ht : r t / (∑ x, r x) = 0
    · have : r t = 0 := by
        rcases div_eq_zero_iff.1 ht with h | h
        · exact h
        · exact absurd h hS.ne'
      rw [if_pos ht, bot_sub', this, zero_div, zero_mul]; rfl
    · rw [if_neg ht, ← EReal.coe_sub]
      have hpt : 0 < r t := lt_of_le_of_ne (h0 t) fun h => ht (by rw [← h, zero_div])
      show ((Real.exp _ : ℝ) : EReal) = _
      congr 1
      have e1 : 2 * Real.log (r t / ∑ x, r x) - 2 * Real.log (r 0 / ∑ x, r x) = Real.log (r t / r 0) + Real.log (r t / r 0) := by
        rw [Real.log_div hpt.ne' hS.ne', Real.log_div hp.ne' hS.ne', Real.log_div hpt.ne' hp.ne']
        ring
      rw [e1, Real.exp_add, Real.exp_log (div_pos hpt hp)]
  simp only [he]

theorem score_bot (q : Fin 6 → EReal) (hq : ∀ j, q j = ⊥) (j : Fin 6) : Ref.logSoft (fun t => Ideal.div (q t) (∑ x, q x)) j = sqScore q j := by
  have hs : (∑ _x : Fin 6, (⊥ : EReal)) = ⊥ := by rw [Fin.sum_univ_six]; simp only [EReal.bot_add]
  have hr : ∀ t, sqRatio q t = 0 := by
    intro t
    rw [sqRatio, max_six q fun j => by rw [hq, hq], hq, hq, bot_div_bot, zero_mul]
  have hl : Ideal.div (Ideal.log ⊥) (Ideal.ofBits .f32 0x3F000000#32) = ⊥ := by
    rw [half_eq, show Ideal.log ⊥ = ⊥ from rfl, Ideal.div, if_neg (by norm_num), ← EReal.coe_inv]
    exact EReal.bot_mul_coe_of_pos (by norm_num)
  rw [sqScore_sum]
  unfold Ref.logSoft smax
  simp only [hr, hq, hs, bot_div_bot, Finset.sum_const_zero, zero_div_zero, hl, bot_sub', exp_bot]

/-- The reference's scores of six picked probabilities of a row are the kernel's. -/
theorem score_eq (p : Fin 32 → EReal) (c : Fin 6 → Fin 32) (hc : ∀ j, smax p j ≤ smax p (c 0)) (j : Fin 6) :
    Ref.logSoft (fun t => Ideal.div (smax p (c t)) (∑ x, smax p (c x))) j = sqScore (fun t => smax p (c t)) j := by
  rcases smax_cases p with h | ⟨r, hr, h0, i, hi⟩
  · exact score_bot (fun t => smax p (c t)) (fun t => h _) j
  · have hle : ∀ j, r j ≤ r (c 0) := fun j => by
      have := hc j
      rw [hr, hr] at this
      exact_mod_cast this
    exact score_real (fun t => r (c t)) (fun t => h0 _) (hi.trans_le (hle i)) (fun t => hle _) (fun t => smax p (c t)) (fun t => hr _) j

end ModeNms

end
-- ==== Proof.RefArray.lean ====
/- The reference's two result arrays, index by index: the sampled trajectories of the picked modes everywhere, their
   scores where the second pass changes none of an agent's. -/
module

public import proofs.«01_k».proof.Proof.Links
public import proofs.«01_k».proof.Proof.Scores

@[expose] public section

set_option maxRecDepth 16384

noncomputable section

namespace ModeNms.Ref

open Idealize.ShloMosaic Cert.ReferenceIdeal Cert.ReferenceIdeal.Gen Cert.ReferenceIdeal.Value

section Arrays

variable (A0 : FVec Ideal S64x64x3 .f32) (A1 : FVec Ideal S64x32x64x80x3 .f32) (A2 : FVec Ideal S64x32x64 .f32)

theorem selV_eq (s a : Fin 64) (t : Nat) : selV (nearV A0 A1) (pV A2) s a t = selAt A0 A1 A2 s a t := by
  have h1 : (fun i j => nearV A0 A1 (ix4 s a i j)) = nearAt A0 A1 s a := by
    funext i j; exact nearV_apply A0 A1 s a i j
  have h2 : (fun j => pV A2 (ix3 s a j)) = pAt A2 s a := by
    funext j; exact pV_apply A2 s a j
  unfold selV selAt
  rw [h1, h2]

theorem modesA_apply (s a : Fin 64) (t : Fin 6) : modesA A0 A1 A2 (ix3 s a t) = BitVec.ofNat 32 (selAt A0 A1 A2 s a (t : Nat) : Nat) := by
  rw [← selV_eq]
  exact modesV_apply (nearV A0 A1) (pV A2) s a t

theorem trV_apply (s a : Fin 64) (j : Fin 32) (u : Fin 80) (k : Fin 3) : trV A1 (ix5 s a j u k) = A1 (ix5 s j a u k) := by
  pointwise [trV]

theorem trA_apply (s a : Fin 64) (t : Fin 6) (u : Fin 80) (k : Fin 3) :
    trA A0 A1 A2 (ix5 s a t u k) = A1 (ix5 s (selAt A0 A1 A2 s a (t : Nat)) a u k) :=
  (takeT_apply (modesA A0 A1 A2) s a t _ (modesA_apply A0 A1 A2 s a t) (trV A1) u k).trans (trV_apply A1 s a _ u k)

theorem traj_apply (s a : Fin 64) (j : Fin 6) (u : Fin 16) (k : Fin 3) :
    Host.slice S64x64x6x16x3 ![0, 0, 0, 4, 0] ![1, 1, 1, 5, 1] (trA A0 A1 A2) slicesBy_S64x64x6x80x3_S64x64x6x16x3_0s1_0s1_0s1_4s5_0s1 (ix5 s a j u k)
      = arrT A0 A1 A2 (ix5 s j k a u) :=
  (sample_apply (trA A0 A1 A2) s a j u k).trans (trA_apply A0 A1 A2 s a j (tAt u) k)

theorem takenP_apply (s a : Fin 64) (t : Fin 6) :
    takeP (pV A2) (modesA A0 A1 A2) (ix3 s a t) = pAt A2 s a (selAt A0 A1 A2 s a (t : Nat)) :=
  (takeP_apply (modesA A0 A1 A2) s a t _ (modesA_apply A0 A1 A2 s a t) (pV A2)).trans (pV_apply A2 s a _)

theorem svA_apply (s a : Fin 64) (t : Fin 6) :
    svA A0 A1 A2 (ix3 s a t) = Ideal.div (pAt A2 s a (selAt A0 A1 A2 s a (t : Nat))) (∑ x : Fin 6, pAt A2 s a (selAt A0 A1 A2 s a (x : Nat))) := by
  unfold svA
  rw [normV_apply]
  simp only [takenP_apply]

theorem score_apply (s a : Fin 64)
    (hno : ∀ i j : Fin 6, IntOp.andi (n6A A0 A1 A2 (ix4 s a i j)) (BitVec.ofBool (decide (svA A0 A1 A2 (ix3 s a i) < svA A0 A1 A2 (ix3 s a j)))) = 0#1) (j : Fin 6) :
    normV (exp6 (pass (n6A A0 A1 A2) (svA A0 A1 A2) 6)) (ix3 s a j) = arrS A0 A1 A2 (ix3 s j a) := by
  rw [soft_apply]
  simp only [pass_apply _ _ s a hno 6, svA_apply]
  exact score_eq (fun j => A2 (ix3 s j a)) (fun t => selAt A0 A1 A2 s a (t : Nat)) (fun j => sel_zero_le _ _ j) j

end Arrays

section Results

variable (V0 : Valuation τ sig (Elt Ideal))

theorem result_traj (s a : Fin 64) (j : Fin 6) (u : Fin 16) (k : Fin 3) :
    Host.slice S64x64x6x16x3 ![0, 0, 0, 4, 0] ![1, 1, 1, 5, 1] (res_main_v123 V0) slicesBy_S64x64x6x80x3_S64x64x6x16x3_0s1_0s1_0s1_4s5_0s1 (ix5 s a j u k)
      = arrT (a0 V0) (a1 V0) (a2 V0) (ix5 s j k a u) := by
  rw [link123]
  exact traj_apply (a0 V0) (a1 V0) (a2 V0) s a j u k

theorem result_score (s a : Fin 64)
    (hno : ∀ i j : Fin 6, IntOp.andi (n6A (a0 V0) (a1 V0) (a2 V0) (ix4 s a i j))
      (BitVec.ofBool (decide (svA (a0 V0) (a1 V0) (a2 V0) (ix3 s a i) < svA (a0 V0) (a1 V0) (a2 V0) (ix3 s a j)))) = 0#1) (j : Fin 6) :
    Host.divf (res_main_v246 V0) (broadcastInDim S64x64x6 ![0, 1, 2] bcast_S64x64x1_S64x64x6_0_1_2 (broadcastInDim S64x64x1 ![0, 1] bcast_S64x64_S64x64x1_0_1 (Host.reduceAdd (res_main_v246 V0) (constant S_ .f32 0x00000000#32) reducesTo_S64x64x6_S64x64_d2 h_S_))) (ix3 s a j)
      = arrS (a0 V0) (a1 V0) (a2 V0) (ix3 s j a) := by
  rw [link246]
  exact score_apply (a0 V0) (a1 V0) (a2 V0) s a hno j

end Results

end ModeNms.Ref

end
-- ==== Proof.Final.lean ====
/- The claims: the three frames, the named constant, and the two programs' results. -/
module

public import proofs.«01_k».proof.Defs
public import proofs.«01_k».proof.Proof.Gen.Kernel.Frame
public import proofs.«01_k».proof.Proof.Gen.KernelIdeal.Frame
public import proofs.«01_k».proof.Proof.Gen.KernelIdeal.Run
public import proofs.«01_k».proof.Proof.KernelArray
public import proofs.«01_k».proof.Proof.Mask
public import proofs.«01_k».proof.Proof.RefArray
public import Idealize.ShloMosaic.Lib.Quiescent

@[expose] public section

set_option maxRecDepth 16384

noncomputable section

namespace ModeNms

open Idealize.ShloMosaic

theorem frame_kernel : Cert.quiescent_Kernel := fun m ρ _ => Cert.Kernel.Gen.frame m ρ
theorem frame_kernelIdeal : Cert.quiescent_KernelIdeal := fun m ρ _ => Cert.KernelIdeal.Gen.frame m ρ
theorem frame_reference : Cert.quiescent_ReferenceIdeal := fun m ρ _ =>
  (θ_run Cert.ReferenceIdeal.defs _ _).mono (fun r h =>
    ⟨fun c => ⟨(h c).2.2.1, (h c).2.2.2.1, (h c).2.2.2.2⟩, Idealize.ShloMosaic.sem_eq_zero_of_no_sems (by decide) r.2⟩)
    (Cert.ReferenceIdeal.Value.run (F := Ideal) m ρ)

/-- The constant the kernel names is the number it stands for. -/
theorem constant_named : Cert.preserves_Kernel_KernelIdeal :=
  IdealRules.named_const.statement Cert.KernelIdeal.κ "c01" .f32 0x3C23D70A#32 _ rfl

/-- The trajectories both programs leave. -/
def finT (A0 : FVec Ideal ⟨3, ![64, 64, 3]⟩ .f32) (A1 : FVec Ideal ⟨5, ![64, 32, 64, 80, 3]⟩ .f32) (A2 : FVec Ideal ⟨3, ![64, 32, 64]⟩ .f32) :
    FVec Ideal ⟨5, ![64, 64, 6, 16, 3]⟩ .f32 := fun i => arrT A0 A1 A2 (ix5 (i 0) (i 2) (i 4) (i 1) (i 3))
/-- The scores both leave where the mask is set. -/
def finS (A0 : FVec Ideal ⟨3, ![64, 64, 3]⟩ .f32) (A1 : FVec Ideal ⟨5, ![64, 32, 64, 80, 3]⟩ .f32) (A2 : FVec Ideal ⟨3, ![64, 32, 64]⟩ .f32) :
    FVec Ideal ⟨3, ![64, 64, 6]⟩ .f32 := fun i => arrS A0 A1 A2 (ix3 (i 0) (i 2) (i 1))

theorem values_agree : Cert.algebraic_KernelIdeal_ReferenceIdeal_on_unsuppressed := by
  intro m ρ m' ρ' _ hagree
  refine ⟨fun c => finT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => finS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    ?_, ?_⟩
  · exact (θ_run Cert.KernelIdeal.defs _ _).mono (fun _ h c => ⟨fun i _ => (congrFun (h c).1 i).trans (by rw [eq_ix5 i]; exact kernel_traj c (i 0) (i 1) (i 2) (i 3) (i 4)),
      fun i _ => (congrFun (h c).2.1 i).trans (by rw [eq_ix3 i]; exact kernel_score c (i 0) (i 1) (i 2)), (h c).2.2⟩)
      (Cert.KernelIdeal.Value.run (F := Ideal) m ρ)
  · refine (θ_run Cert.ReferenceIdeal.defs _ _).mono (fun _ h c => ⟨fun i _ => (congrFun (h c).1 i).trans ?_, fun i hi => (congrFun (h c).2.1 i).trans ?_, (h c).2.2⟩)
      (Cert.ReferenceIdeal.Value.run (F := Ideal) m' ρ')
    · beta_reduce
      rw [← (hagree c).1, ← (hagree c).2.1, ← (hagree c).2.2, eq_ix5 i]
      exact Ref.result_traj (StableHlo.launchContents m' c) (i 0) (i 1) (i 2) (i 3) (i 4)
    · beta_reduce
      rw [← (hagree c).1, ← (hagree c).2.1, ← (hagree c).2.2] at hi ⊢
      rw [eq_ix3 i] at hi ⊢
      exact Ref.result_score (StableHlo.launchContents m' c) (i 0) (i 1) (Mask.mask_apply _ _ _ (i 0) (i 1) (i 2) hi) (i 2)

end ModeNms

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_unsuppressed
public import proofs.«01_k».proof.Proof.Final
public import proofs.«01_k».proof.Proof.Gen.KernelIdeal.Run
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_unsuppressed.Gen.facts, ModeNms.frame_kernel, ModeNms.frame_kernelIdeal, ModeNms.frame_reference, ModeNms.constant_named, ModeNms.values_agree⟩

end Cert.Proof

end
